-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_two_pi" .f32 0x3E22F983#32 ((2097152 / 13176795 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v427) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x146 : Shape := ⟨3, ![8, 512, 146]⟩
abbrev S8x512x512 : Shape := ⟨3, ![8, 512, 512]⟩
abbrev S8x512x2 : Shape := ⟨3, ![8, 512, 2]⟩
abbrev S9x146x64 : Shape := ⟨3, ![9, 146, 64]⟩
abbrev S146x64 : Shape := ⟨2, ![146, 64]⟩
abbrev S64 : Shape := ⟨1, ![64]⟩
abbrev S9x64x64 : Shape := ⟨3, ![9, 64, 64]⟩
abbrev S64x64 : Shape := ⟨2, ![64, 64]⟩
abbrev S64x10 : Shape := ⟨2, ![64, 10]⟩
abbrev S10 : Shape := ⟨1, ![10]⟩
abbrev S8x2x512 : Shape := ⟨3, ![8, 2, 512]⟩
abbrev S146x9x64 : Shape := ⟨3, ![146, 9, 64]⟩
abbrev S146x576 : Shape := ⟨2, ![146, 576]⟩
abbrev S1x64 : Shape := ⟨2, ![1, 64]⟩
abbrev S64x9x64 : Shape := ⟨3, ![64, 9, 64]⟩
abbrev S64x576 : Shape := ⟨2, ![64, 576]⟩
abbrev S1x10 : Shape := ⟨2, ![1, 10]⟩
abbrev S8x1x10 : Shape := ⟨3, ![8, 1, 10]⟩
abbrev S1x2x512 : Shape := ⟨3, ![1, 2, 512]⟩
abbrev S1x512x2 : Shape := ⟨3, ![1, 512, 2]⟩
abbrev S1x512x512 : Shape := ⟨3, ![1, 512, 512]⟩
abbrev S1x512x146 : Shape := ⟨3, ![1, 512, 146]⟩
abbrev S1x1x10 : Shape := ⟨3, ![1, 1, 10]⟩
abbrev S512x512 : Shape := ⟨2, ![512, 512]⟩
abbrev S1x1x512 : Shape := ⟨3, ![1, 1, 512]⟩
abbrev S1x512 : Shape := ⟨2, ![1, 512]⟩
abbrev S1x512x1 : Shape := ⟨3, ![1, 512, 1]⟩
abbrev S512x1 : Shape := ⟨2, ![512, 1]⟩
abbrev S1 : Shape := ⟨1, ![1]⟩
abbrev S1x1x1 : Shape := ⟨3, ![1, 1, 1]⟩
abbrev S512 : Shape := ⟨1, ![512]⟩
abbrev S512x146 : Shape := ⟨2, ![512, 146]⟩
abbrev S512x576 : Shape := ⟨2, ![512, 576]⟩
abbrev S512x64 : Shape := ⟨2, ![512, 64]⟩
abbrev S8x512x512x1 : Shape := ⟨4, ![8, 512, 512, 1]⟩
abbrev S8x512x512x2 : Shape := ⟨4, ![8, 512, 512, 2]⟩
abbrev S8x10 : Shape := ⟨2, ![8, 10]⟩

abbrev nBuf : Space → Nat
  | .hbm => 32
  | .vmem => 25
  | .smem => 0
  | _ => 0

abbrev bufTy : (tb : Table) → Fin (tcTables nBuf tb) → BufTy
  | .hbm, ⟨0, _⟩ => ⟨S8x512x146, .f32⟩
  | .hbm, ⟨1, _⟩ => ⟨S8x512x512, .f32⟩
  | .hbm, ⟨2, _⟩ => ⟨S8x512x2, .f32⟩
  | .hbm, ⟨3, _⟩ => ⟨S9x146x64, .f32⟩
  | .hbm, ⟨4, _⟩ => ⟨S146x64, .f32⟩
  | .hbm, ⟨5, _⟩ => ⟨S64, .f32⟩
  | .hbm, ⟨6, _⟩ => ⟨S9x64x64, .f32⟩
  | .hbm, ⟨7, _⟩ => ⟨S64x64, .f32⟩
  | .hbm, ⟨8, _⟩ => ⟨S64, .f32⟩
  | .hbm, ⟨9, _⟩ => ⟨S9x64x64, .f32⟩
  | .hbm, ⟨10, _⟩ => ⟨S64x64, .f32⟩
  | .hbm, ⟨11, _⟩ => ⟨S64, .f32⟩
  | .hbm, ⟨12, _⟩ => ⟨S64x10, .f32⟩
  | .hbm, ⟨13, _⟩ => ⟨S10, .f32⟩
  | .hbm, ⟨14, _⟩ => ⟨S8x2x512, .f32⟩
  | .hbm, ⟨15, _⟩ => ⟨S146x9x64, .f32⟩
  | .hbm, ⟨16, _⟩ => ⟨S146x576, .f32⟩
  | .hbm, ⟨17, _⟩ => ⟨S1x64, .f32⟩
  | .hbm, ⟨18, _⟩ => ⟨S64x9x64, .f32⟩
  | .hbm, ⟨19, _⟩ => ⟨S64x576, .f32⟩
  | .hbm, ⟨20, _⟩ => ⟨S1x64, .f32⟩
  | .hbm, ⟨21, _⟩ => ⟨S64x9x64, .f32⟩
  | .hbm, ⟨22, _⟩ => ⟨S64x576, .f32⟩
  | .hbm, ⟨23, _⟩ => ⟨S1x64, .f32⟩
  | .hbm, ⟨24, _⟩ => ⟨S1x10, .f32⟩
  | .hbm, ⟨25, _⟩ => ⟨S8x1x10, .f32⟩
  | .hbm, ⟨26, _⟩ => ⟨S8x512x512, .f32⟩
  | .hbm, ⟨27, _⟩ => ⟨S8x512x512, .f32⟩
  | .hbm, ⟨28, _⟩ => ⟨S8x512x512x1, .f32⟩
  | .hbm, ⟨29, _⟩ => ⟨S8x512x512x1, .f32⟩
  | .hbm, ⟨30, _⟩ => ⟨S8x512x512x2, .f32⟩
  | .hbm, ⟨31, _⟩ => ⟨S8x10, .f32⟩
  | .local _ .vmem, ⟨0, _⟩ => ⟨S1x2x512, .f32⟩
  | .local _ .vmem, ⟨1, _⟩ => ⟨S1x2x512, .f32⟩
  | .local _ .vmem, ⟨2, _⟩ => ⟨S1x512x2, .f32⟩
  | .local _ .vmem, ⟨3, _⟩ => ⟨S1x512x2, .f32⟩
  | .local _ .vmem, ⟨4, _⟩ => ⟨S1x512x512, .f32⟩
  | .local _ .vmem, ⟨5, _⟩ => ⟨S1x512x512, .f32⟩
  | .local _ .vmem, ⟨6, _⟩ => ⟨S1x512x146, .f32⟩
  | .local _ .vmem, ⟨7, _⟩ => ⟨S1x512x146, .f32⟩
  | .local _ .vmem, ⟨8, _⟩ => ⟨S146x576, .f32⟩
  | .local _ .vmem, ⟨9, _⟩ => ⟨S146x64, .f32⟩
  | .local _ .vmem, ⟨10, _⟩ => ⟨S1x64, .f32⟩
  | .local _ .vmem, ⟨11, _⟩ => ⟨S64x576, .f32⟩
  | .local _ .vmem, ⟨12, _⟩ => ⟨S64x64, .f32⟩
  | .local _ .vmem, ⟨13, _⟩ => ⟨S1x64, .f32⟩
  | .local _ .vmem, ⟨14, _⟩ => ⟨S64x576, .f32⟩
  | .local _ .vmem, ⟨15, _⟩ => ⟨S64x64, .f32⟩
  | .local _ .vmem, ⟨16, _⟩ => ⟨S1x64, .f32⟩
  | .local _ .vmem, ⟨17, _⟩ => ⟨S64x10, .f32⟩
  | .local _ .vmem, ⟨18, _⟩ => ⟨S1x10, .f32⟩
  | .local _ .vmem, ⟨19, _⟩ => ⟨S1x1x10, .f32⟩
  | .local _ .vmem, ⟨20, _⟩ => ⟨S1x1x10, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | _, _ => ⟨S8x512x146, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x146 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S146x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S146x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x576 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "inv_two_pi" => some ((2097152 / 13176795 : ℝ) : EReal)
  | _ => none
-- ==== ReferenceIdeal.lean ====
abbrev S8x512x146 : Shape := ⟨3, ![8, 512, 146]⟩
abbrev S8x512x512 : Shape := ⟨3, ![8, 512, 512]⟩
abbrev S8x512x2 : Shape := ⟨3, ![8, 512, 2]⟩
abbrev S9x146x64 : Shape := ⟨3, ![9, 146, 64]⟩
abbrev S146x64 : Shape := ⟨2, ![146, 64]⟩
abbrev S64 : Shape := ⟨1, ![64]⟩
abbrev S9x64x64 : Shape := ⟨3, ![9, 64, 64]⟩
abbrev S64x64 : Shape := ⟨2, ![64, 64]⟩
abbrev S64x10 : Shape := ⟨2, ![64, 10]⟩
abbrev S10 : Shape := ⟨1, ![10]⟩
abbrev S_ : Shape := ⟨0, ![]⟩
abbrev S8x1x512x2 : Shape := ⟨4, ![8, 1, 512, 2]⟩
abbrev S8x512x1x2 : Shape := ⟨4, ![8, 512, 1, 2]⟩
abbrev S8x512x512x2 : Shape := ⟨4, ![8, 512, 512, 2]⟩
abbrev S8x512x512x1 : Shape := ⟨4, ![8, 512, 512, 1]⟩
abbrev S8 : Shape := ⟨1, ![8]⟩
abbrev S8x1x1 : Shape := ⟨3, ![8, 1, 1]⟩
abbrev S3 : Shape := ⟨1, ![3]⟩
abbrev S8x512x512x2x1 : Shape := ⟨5, ![8, 512, 512, 2, 1]⟩
abbrev S1x1x1x1x3 : Shape := ⟨5, ![1, 1, 1, 1, 3]⟩
abbrev S8x512x512x2x3 : Shape := ⟨5, ![8, 512, 512, 2, 3]⟩
abbrev S8x512 : Shape := ⟨2, ![8, 512]⟩
abbrev S8x512x1 : Shape := ⟨3, ![8, 512, 1]⟩
abbrev S8x512x64 : Shape := ⟨3, ![8, 512, 64]⟩
abbrev S1x1x64 : Shape := ⟨3, ![1, 1, 64]⟩
abbrev S8x512x512x1x1 : Shape := ⟨5, ![8, 512, 512, 1, 1]⟩
abbrev S1x146x64 : Shape := ⟨3, ![1, 146, 64]⟩
abbrev S1x64x64 : Shape := ⟨3, ![1, 64, 64]⟩
abbrev S8x64 : Shape := ⟨2, ![8, 64]⟩
abbrev S8x10 : Shape := ⟨2, ![8, 10]⟩
abbrev S1x10 : Shape := ⟨2, ![1, 10]⟩

abbrev nBuf : Space → Nat
  | .hbm => 471
  | .vmem => 0
  | .smem => 0
  | _ => 0

abbrev hbmTy0_0 (i : Nat) : BufTy := match i % 128 with
  | 0 => ⟨S8x512x146, .f32⟩
  | 1 => ⟨S8x512x512, .f32⟩
  | 2 => ⟨S8x512x2, .f32⟩
  | 3 => ⟨S9x146x64, .f32⟩
  | 4 => ⟨S146x64, .f32⟩
  | 5 => ⟨S64, .f32⟩
  | 6 => ⟨S9x64x64, .f32⟩
  | 7 => ⟨S64x64, .f32⟩
  | 8 => ⟨S64, .f32⟩
  | 9 => ⟨S9x64x64, .f32⟩
  | 10 => ⟨S64x64, .f32⟩
  | 11 => ⟨S64, .f32⟩
  | 12 => ⟨S64x10, .f32⟩
  | 13 => ⟨S10, .f32⟩
  | 14 => ⟨S_, .f32⟩
  | 15 => ⟨S8x512x512, .f32⟩
  | 16 => ⟨S8x512x512, .i1⟩
  | 17 => ⟨S8x512x512, .f32⟩
  | 18 => ⟨S8x1x512x2, .f32⟩
  | 19 => ⟨S8x512x1x2, .f32⟩
  | 20 => ⟨S8x512x512x2, .f32⟩
  | 21 => ⟨S8x512x512x2, .f32⟩
  | 22 => ⟨S8x512x512x2, .f32⟩
  | 23 => ⟨S8x512x512x2, .f32⟩
  | 24 => ⟨S_, .f32⟩
  | 25 => ⟨S8x512x512, .f32⟩
  | 26 => ⟨S_, .f32⟩
  | 27 => ⟨S8x512x512, .f32⟩
  | 28 => ⟨S8x512x512, .f32⟩
  | 29 => ⟨S8x512x512, .f32⟩
  | 30 => ⟨S8x512x512x1, .f32⟩
  | 31 => ⟨S8x512x512, .f32⟩
  | 32 => ⟨S8x512x512x1, .f32⟩
  | 33 => ⟨S8x512x512, .f32⟩
  | 34 => ⟨S8x512x512, .f32⟩
  | 35 => ⟨S8x512x512, .f32⟩
  | 36 => ⟨S_, .f32⟩
  | 37 => ⟨S8, .f32⟩
  | 38 => ⟨S8x1x1, .f32⟩
  | 39 => ⟨S_, .f32⟩
  | 40 => ⟨S8x1x1, .f32⟩
  | 41 => ⟨S8x1x1, .f32⟩
  | 42 => ⟨S8x512x512, .f32⟩
  | 43 => ⟨S8x512x512, .f32⟩
  | 44 => ⟨S_, .f32⟩
  | 45 => ⟨S8x512x512, .f32⟩
  | 46 => ⟨S8x512x512, .f32⟩
  | 47 => ⟨S_, .f32⟩
  | 48 => ⟨S8x512x512, .f32⟩
  | 49 => ⟨S8x512x512, .f32⟩
  | 50 => ⟨S8x512x512x1, .f32⟩
  | 51 => ⟨S8x512x512x1, .f32⟩
  | 52 => ⟨S8x512x512x2, .f32⟩
  | 53 => ⟨S8x512x512x1, .f32⟩
  | 54 => ⟨S8x512x512x2, .f32⟩
  | 55 => ⟨S8x512x512x2, .f32⟩
  | 56 => ⟨S_, .f32⟩
  | 57 => ⟨S8x512x512x2, .f32⟩
  | 58 => ⟨S8x512x512x2, .f32⟩
  | 59 => ⟨S3, .f32⟩
  | 60 => ⟨S8x512x512x2x1, .f32⟩
  | 61 => ⟨S1x1x1x1x3, .f32⟩
  | 62 => ⟨S8x512x512x2x3, .f32⟩
  | 63 => ⟨S8x512x512x2x3, .f32⟩
  | 64 => ⟨S8x512x512x2x3, .f32⟩
  | 65 => ⟨S8x512x512x2x3, .f32⟩
  | 66 => ⟨S_, .f32⟩
  | 67 => ⟨S8x512x512x2x3, .f32⟩
  | 68 => ⟨S8x512x512x2x3, .f32⟩
  | 69 => ⟨S_, .f32⟩
  | 70 => ⟨S8x512x512x2x3, .f32⟩
  | 71 => ⟨S8x512x512x2x3, .f32⟩
  | 72 => ⟨S_, .f32⟩
  | 73 => ⟨S8x512, .f32⟩
  | 74 => ⟨S8x512x1, .f32⟩
  | 75 => ⟨S_, .f32⟩
  | 76 => ⟨S_, .f32⟩
  | 77 => ⟨S8x512x1, .f32⟩
  | 78 => ⟨S8x512x1, .f32⟩
  | 79 => ⟨S8x512x64, .f32⟩
  | 80 => ⟨S1x1x64, .f32⟩
  | 81 => ⟨S8x512x64, .f32⟩
  | 82 => ⟨S8x512x64, .f32⟩
  | 83 => ⟨S8x512x512x1x1, .f32⟩
  | 84 => ⟨S8x512x512, .f32⟩
  | 85 => ⟨S8x512x512, .f32⟩
  | 86 => ⟨S8x512x512x1x1, .f32⟩
  | 87 => ⟨S8x512x512, .f32⟩
  | 88 => ⟨S8x512x512, .f32⟩
  | 89 => ⟨S1x146x64, .f32⟩
  | 90 => ⟨S146x64, .f32⟩
  | 91 => ⟨S8x512x64, .f32⟩
  | 92 => ⟨S8x512x64, .f32⟩
  | 93 => ⟨S8x512x64, .f32⟩
  | 94 => ⟨S8x512x64, .f32⟩
  | 95 => ⟨S8x512x64, .f32⟩
  | 96 => ⟨S8x512x512x1x1, .f32⟩
  | 97 => ⟨S8x512x512, .f32⟩
  | 98 => ⟨S8x512x512, .f32⟩
  | 99 => ⟨S8x512x512x1x1, .f32⟩
  | 100 => ⟨S8x512x512, .f32⟩
  | 101 => ⟨S8x512x512, .f32⟩
  | 102 => ⟨S1x146x64, .f32⟩
  | 103 => ⟨S146x64, .f32⟩
  | 104 => ⟨S8x512x64, .f32⟩
  | 105 => ⟨S8x512x64, .f32⟩
  | 106 => ⟨S8x512x64, .f32⟩
  | 107 => ⟨S8x512x64, .f32⟩
  | 108 => ⟨S8x512x64, .f32⟩
  | 109 => ⟨S8x512x512x1x1, .f32⟩
  | 110 => ⟨S8x512x512, .f32⟩
  | 111 => ⟨S8x512x512, .f32⟩
  | 112 => ⟨S8x512x512x1x1, .f32⟩
  | 113 => ⟨S8x512x512, .f32⟩
  | 114 => ⟨S8x512x512, .f32⟩
  | 115 => ⟨S1x146x64, .f32⟩
  | 116 => ⟨S146x64, .f32⟩
  | 117 => ⟨S8x512x64, .f32⟩
  | 118 => ⟨S8x512x64, .f32⟩
  | 119 => ⟨S8x512x64, .f32⟩
  | 120 => ⟨S8x512x64, .f32⟩
  | 121 => ⟨S8x512x64, .f32⟩
  | 122 => ⟨S8x512x512x1x1, .f32⟩
  | 123 => ⟨S8x512x512, .f32⟩
  | 124 => ⟨S8x512x512, .f32⟩
  | 125 => ⟨S8x512x512x1x1, .f32⟩
  | 126 => ⟨S8x512x512, .f32⟩
  | 127 => ⟨S8x512x512, .f32⟩
  | _ => ⟨S8x512x146, .f32⟩

abbrev hbmTy0_1 (i : Nat) : BufTy := match i % 128 with
  | 0 => ⟨S1x146x64, .f32⟩
  | 1 => ⟨S146x64, .f32⟩
  | 2 => ⟨S8x512x64, .f32⟩
  | 3 => ⟨S8x512x64, .f32⟩
  | 4 => ⟨S8x512x64, .f32⟩
  | 5 => ⟨S8x512x64, .f32⟩
  | 6 => ⟨S8x512x64, .f32⟩
  | 7 => ⟨S8x512x512x1x1, .f32⟩
  | 8 => ⟨S8x512x512, .f32⟩
  | 9 => ⟨S8x512x512, .f32⟩
  | 10 => ⟨S8x512x512x1x1, .f32⟩
  | 11 => ⟨S8x512x512, .f32⟩
  | 12 => ⟨S8x512x512, .f32⟩
  | 13 => ⟨S1x146x64, .f32⟩
  | 14 => ⟨S146x64, .f32⟩
  | 15 => ⟨S8x512x64, .f32⟩
  | 16 => ⟨S8x512x64, .f32⟩
  | 17 => ⟨S8x512x64, .f32⟩
  | 18 => ⟨S8x512x64, .f32⟩
  | 19 => ⟨S8x512x64, .f32⟩
  | 20 => ⟨S8x512x512x1x1, .f32⟩
  | 21 => ⟨S8x512x512, .f32⟩
  | 22 => ⟨S8x512x512, .f32⟩
  | 23 => ⟨S8x512x512x1x1, .f32⟩
  | 24 => ⟨S8x512x512, .f32⟩
  | 25 => ⟨S8x512x512, .f32⟩
  | 26 => ⟨S1x146x64, .f32⟩
  | 27 => ⟨S146x64, .f32⟩
  | 28 => ⟨S8x512x64, .f32⟩
  | 29 => ⟨S8x512x64, .f32⟩
  | 30 => ⟨S8x512x64, .f32⟩
  | 31 => ⟨S8x512x64, .f32⟩
  | 32 => ⟨S8x512x64, .f32⟩
  | 33 => ⟨S8x512x512x1x1, .f32⟩
  | 34 => ⟨S8x512x512, .f32⟩
  | 35 => ⟨S8x512x512, .f32⟩
  | 36 => ⟨S8x512x512x1x1, .f32⟩
  | 37 => ⟨S8x512x512, .f32⟩
  | 38 => ⟨S8x512x512, .f32⟩
  | 39 => ⟨S1x146x64, .f32⟩
  | 40 => ⟨S146x64, .f32⟩
  | 41 => ⟨S8x512x64, .f32⟩
  | 42 => ⟨S8x512x64, .f32⟩
  | 43 => ⟨S8x512x64, .f32⟩
  | 44 => ⟨S8x512x64, .f32⟩
  | 45 => ⟨S8x512x64, .f32⟩
  | 46 => ⟨S8x512x512x1x1, .f32⟩
  | 47 => ⟨S8x512x512, .f32⟩
  | 48 => ⟨S8x512x512, .f32⟩
  | 49 => ⟨S8x512x512x1x1, .f32⟩
  | 50 => ⟨S8x512x512, .f32⟩
  | 51 => ⟨S8x512x512, .f32⟩
  | 52 => ⟨S1x146x64, .f32⟩
  | 53 => ⟨S146x64, .f32⟩
  | 54 => ⟨S8x512x64, .f32⟩
  | 55 => ⟨S8x512x64, .f32⟩
  | 56 => ⟨S8x512x64, .f32⟩
  | 57 => ⟨S8x512x64, .f32⟩
  | 58 => ⟨S8x512x64, .f32⟩
  | 59 => ⟨S8x512x512x1x1, .f32⟩
  | 60 => ⟨S8x512x512, .f32⟩
  | 61 => ⟨S8x512x512, .f32⟩
  | 62 => ⟨S8x512x512x1x1, .f32⟩
  | 63 => ⟨S8x512x512, .f32⟩
  | 64 => ⟨S8x512x512, .f32⟩
  | 65 => ⟨S1x146x64, .f32⟩
  | 66 => ⟨S146x64, .f32⟩
  | 67 => ⟨S8x512x64, .f32⟩
  | 68 => ⟨S8x512x64, .f32⟩
  | 69 => ⟨S8x512x64, .f32⟩
  | 70 => ⟨S8x512x64, .f32⟩
  | 71 => ⟨S8x512x64, .f32⟩
  | 72 => ⟨S_, .f32⟩
  | 73 => ⟨S8x512x64, .f32⟩
  | 74 => ⟨S8x512x64, .f32⟩
  | 75 => ⟨S_, .f32⟩
  | 76 => ⟨S8x512, .f32⟩
  | 77 => ⟨S8x512x1, .f32⟩
  | 78 => ⟨S_, .f32⟩
  | 79 => ⟨S_, .f32⟩
  | 80 => ⟨S8x512x1, .f32⟩
  | 81 => ⟨S8x512x1, .f32⟩
  | 82 => ⟨S8x512x64, .f32⟩
  | 83 => ⟨S1x1x64, .f32⟩
  | 84 => ⟨S8x512x64, .f32⟩
  | 85 => ⟨S8x512x64, .f32⟩
  | 86 => ⟨S8x512x512x1x1, .f32⟩
  | 87 => ⟨S8x512x512, .f32⟩
  | 88 => ⟨S8x512x512, .f32⟩
  | 89 => ⟨S8x512x512x1x1, .f32⟩
  | 90 => ⟨S8x512x512, .f32⟩
  | 91 => ⟨S8x512x512, .f32⟩
  | 92 => ⟨S1x64x64, .f32⟩
  | 93 => ⟨S64x64, .f32⟩
  | 94 => ⟨S8x512x64, .f32⟩
  | 95 => ⟨S8x512x64, .f32⟩
  | 96 => ⟨S8x512x64, .f32⟩
  | 97 => ⟨S8x512x64, .f32⟩
  | 98 => ⟨S8x512x64, .f32⟩
  | 99 => ⟨S8x512x512x1x1, .f32⟩
  | 100 => ⟨S8x512x512, .f32⟩
  | 101 => ⟨S8x512x512, .f32⟩
  | 102 => ⟨S8x512x512x1x1, .f32⟩
  | 103 => ⟨S8x512x512, .f32⟩
  | 104 => ⟨S8x512x512, .f32⟩
  | 105 => ⟨S1x64x64, .f32⟩
  | 106 => ⟨S64x64, .f32⟩
  | 107 => ⟨S8x512x64, .f32⟩
  | 108 => ⟨S8x512x64, .f32⟩
  | 109 => ⟨S8x512x64, .f32⟩
  | 110 => ⟨S8x512x64, .f32⟩
  | 111 => ⟨S8x512x64, .f32⟩
  | 112 => ⟨S8x512x512x1x1, .f32⟩
  | 113 => ⟨S8x512x512, .f32⟩
  | 114 => ⟨S8x512x512, .f32⟩
  | 115 => ⟨S8x512x512x1x1, .f32⟩
  | 116 => ⟨S8x512x512, .f32⟩
  | 117 => ⟨S8x512x512, .f32⟩
  | 118 => ⟨S1x64x64, .f32⟩
  | 119 => ⟨S64x64, .f32⟩
  | 120 => ⟨S8x512x64, .f32⟩
  | 121 => ⟨S8x512x64, .f32⟩
  | 122 => ⟨S8x512x64, .f32⟩
  | 123 => ⟨S8x512x64, .f32⟩
  | 124 => ⟨S8x512x64, .f32⟩
  | 125 => ⟨S8x512x512x1x1, .f32⟩
  | 126 => ⟨S8x512x512, .f32⟩
  | 127 => ⟨S8x512x512, .f32⟩
  | _ => ⟨S8x512x146, .f32⟩

abbrev hbmTy0_2 (i : Nat) : BufTy := match i % 128 with
  | 0 => ⟨S8x512x512x1x1, .f32⟩
  | 1 => ⟨S8x512x512, .f32⟩
  | 2 => ⟨S8x512x512, .f32⟩
  | 3 => ⟨S1x64x64, .f32⟩
  | 4 => ⟨S64x64, .f32⟩
  | 5 => ⟨S8x512x64, .f32⟩
  | 6 => ⟨S8x512x64, .f32⟩
  | 7 => ⟨S8x512x64, .f32⟩
  | 8 => ⟨S8x512x64, .f32⟩
  | 9 => ⟨S8x512x64, .f32⟩
  | 10 => ⟨S8x512x512x1x1, .f32⟩
  | 11 => ⟨S8x512x512, .f32⟩
  | 12 => ⟨S8x512x512, .f32⟩
  | 13 => ⟨S8x512x512x1x1, .f32⟩
  | 14 => ⟨S8x512x512, .f32⟩
  | 15 => ⟨S8x512x512, .f32⟩
  | 16 => ⟨S1x64x64, .f32⟩
  | 17 => ⟨S64x64, .f32⟩
  | 18 => ⟨S8x512x64, .f32⟩
  | 19 => ⟨S8x512x64, .f32⟩
  | 20 => ⟨S8x512x64, .f32⟩
  | 21 => ⟨S8x512x64, .f32⟩
  | 22 => ⟨S8x512x64, .f32⟩
  | 23 => ⟨S8x512x512x1x1, .f32⟩
  | 24 => ⟨S8x512x512, .f32⟩
  | 25 => ⟨S8x512x512, .f32⟩
  | 26 => ⟨S8x512x512x1x1, .f32⟩
  | 27 => ⟨S8x512x512, .f32⟩
  | 28 => ⟨S8x512x512, .f32⟩
  | 29 => ⟨S1x64x64, .f32⟩
  | 30 => ⟨S64x64, .f32⟩
  | 31 => ⟨S8x512x64, .f32⟩
  | 32 => ⟨S8x512x64, .f32⟩
  | 33 => ⟨S8x512x64, .f32⟩
  | 34 => ⟨S8x512x64, .f32⟩
  | 35 => ⟨S8x512x64, .f32⟩
  | 36 => ⟨S8x512x512x1x1, .f32⟩
  | 37 => ⟨S8x512x512, .f32⟩
  | 38 => ⟨S8x512x512, .f32⟩
  | 39 => ⟨S8x512x512x1x1, .f32⟩
  | 40 => ⟨S8x512x512, .f32⟩
  | 41 => ⟨S8x512x512, .f32⟩
  | 42 => ⟨S1x64x64, .f32⟩
  | 43 => ⟨S64x64, .f32⟩
  | 44 => ⟨S8x512x64, .f32⟩
  | 45 => ⟨S8x512x64, .f32⟩
  | 46 => ⟨S8x512x64, .f32⟩
  | 47 => ⟨S8x512x64, .f32⟩
  | 48 => ⟨S8x512x64, .f32⟩
  | 49 => ⟨S8x512x512x1x1, .f32⟩
  | 50 => ⟨S8x512x512, .f32⟩
  | 51 => ⟨S8x512x512, .f32⟩
  | 52 => ⟨S8x512x512x1x1, .f32⟩
  | 53 => ⟨S8x512x512, .f32⟩
  | 54 => ⟨S8x512x512, .f32⟩
  | 55 => ⟨S1x64x64, .f32⟩
  | 56 => ⟨S64x64, .f32⟩
  | 57 => ⟨S8x512x64, .f32⟩
  | 58 => ⟨S8x512x64, .f32⟩
  | 59 => ⟨S8x512x64, .f32⟩
  | 60 => ⟨S8x512x64, .f32⟩
  | 61 => ⟨S8x512x64, .f32⟩
  | 62 => ⟨S8x512x512x1x1, .f32⟩
  | 63 => ⟨S8x512x512, .f32⟩
  | 64 => ⟨S8x512x512, .f32⟩
  | 65 => ⟨S8x512x512x1x1, .f32⟩
  | 66 => ⟨S8x512x512, .f32⟩
  | 67 => ⟨S8x512x512, .f32⟩
  | 68 => ⟨S1x64x64, .f32⟩
  | 69 => ⟨S64x64, .f32⟩
  | 70 => ⟨S8x512x64, .f32⟩
  | 71 => ⟨S8x512x64, .f32⟩
  | 72 => ⟨S8x512x64, .f32⟩
  | 73 => ⟨S8x512x64, .f32⟩
  | 74 => ⟨S8x512x64, .f32⟩
  | 75 => ⟨S_, .f32⟩
  | 76 => ⟨S8x512x64, .f32⟩
  | 77 => ⟨S8x512x64, .f32⟩
  | 78 => ⟨S_, .f32⟩
  | 79 => ⟨S8x512, .f32⟩
  | 80 => ⟨S8x512x1, .f32⟩
  | 81 => ⟨S_, .f32⟩
  | 82 => ⟨S_, .f32⟩
  | 83 => ⟨S8x512x1, .f32⟩
  | 84 => ⟨S8x512x1, .f32⟩
  | 85 => ⟨S8x512x64, .f32⟩
  | 86 => ⟨S1x1x64, .f32⟩
  | 87 => ⟨S8x512x64, .f32⟩
  | 88 => ⟨S8x512x64, .f32⟩
  | 89 => ⟨S8x512x512x1x1, .f32⟩
  | 90 => ⟨S8x512x512, .f32⟩
  | 91 => ⟨S8x512x512, .f32⟩
  | 92 => ⟨S8x512x512x1x1, .f32⟩
  | 93 => ⟨S8x512x512, .f32⟩
  | 94 => ⟨S8x512x512, .f32⟩
  | 95 => ⟨S1x64x64, .f32⟩
  | 96 => ⟨S64x64, .f32⟩
  | 97 => ⟨S8x512x64, .f32⟩
  | 98 => ⟨S8x512x64, .f32⟩
  | 99 => ⟨S8x512x64, .f32⟩
  | 100 => ⟨S8x512x64, .f32⟩
  | 101 => ⟨S8x512x64, .f32⟩
  | 102 => ⟨S8x512x512x1x1, .f32⟩
  | 103 => ⟨S8x512x512, .f32⟩
  | 104 => ⟨S8x512x512, .f32⟩
  | 105 => ⟨S8x512x512x1x1, .f32⟩
  | 106 => ⟨S8x512x512, .f32⟩
  | 107 => ⟨S8x512x512, .f32⟩
  | 108 => ⟨S1x64x64, .f32⟩
  | 109 => ⟨S64x64, .f32⟩
  | 110 => ⟨S8x512x64, .f32⟩
  | 111 => ⟨S8x512x64, .f32⟩
  | 112 => ⟨S8x512x64, .f32⟩
  | 113 => ⟨S8x512x64, .f32⟩
  | 114 => ⟨S8x512x64, .f32⟩
  | 115 => ⟨S8x512x512x1x1, .f32⟩
  | 116 => ⟨S8x512x512, .f32⟩
  | 117 => ⟨S8x512x512, .f32⟩
  | 118 => ⟨S8x512x512x1x1, .f32⟩
  | 119 => ⟨S8x512x512, .f32⟩
  | 120 => ⟨S8x512x512, .f32⟩
  | 121 => ⟨S1x64x64, .f32⟩
  | 122 => ⟨S64x64, .f32⟩
  | 123 => ⟨S8x512x64, .f32⟩
  | 124 => ⟨S8x512x64, .f32⟩
  | 125 => ⟨S8x512x64, .f32⟩
  | 126 => ⟨S8x512x64, .f32⟩
  | 127 => ⟨S8x512x64, .f32⟩
  | _ => ⟨S8x512x146, .f32⟩

abbrev hbmTy0_3 (i : Nat) : BufTy := match i % 128 with
  | 0 => ⟨S8x512x512x1x1, .f32⟩
  | 1 => ⟨S8x512x512, .f32⟩
  | 2 => ⟨S8x512x512, .f32⟩
  | 3 => ⟨S8x512x512x1x1, .f32⟩
  | 4 => ⟨S8x512x512, .f32⟩
  | 5 => ⟨S8x512x512, .f32⟩
  | 6 => ⟨S1x64x64, .f32⟩
  | 7 => ⟨S64x64, .f32⟩
  | 8 => ⟨S8x512x64, .f32⟩
  | 9 => ⟨S8x512x64, .f32⟩
  | 10 => ⟨S8x512x64, .f32⟩
  | 11 => ⟨S8x512x64, .f32⟩
  | 12 => ⟨S8x512x64, .f32⟩
  | 13 => ⟨S8x512x512x1x1, .f32⟩
  | 14 => ⟨S8x512x512, .f32⟩
  | 15 => ⟨S8x512x512, .f32⟩
  | 16 => ⟨S8x512x512x1x1, .f32⟩
  | 17 => ⟨S8x512x512, .f32⟩
  | 18 => ⟨S8x512x512, .f32⟩
  | 19 => ⟨S1x64x64, .f32⟩
  | 20 => ⟨S64x64, .f32⟩
  | 21 => ⟨S8x512x64, .f32⟩
  | 22 => ⟨S8x512x64, .f32⟩
  | 23 => ⟨S8x512x64, .f32⟩
  | 24 => ⟨S8x512x64, .f32⟩
  | 25 => ⟨S8x512x64, .f32⟩
  | 26 => ⟨S8x512x512x1x1, .f32⟩
  | 27 => ⟨S8x512x512, .f32⟩
  | 28 => ⟨S8x512x512, .f32⟩
  | 29 => ⟨S8x512x512x1x1, .f32⟩
  | 30 => ⟨S8x512x512, .f32⟩
  | 31 => ⟨S8x512x512, .f32⟩
  | 32 => ⟨S1x64x64, .f32⟩
  | 33 => ⟨S64x64, .f32⟩
  | 34 => ⟨S8x512x64, .f32⟩
  | 35 => ⟨S8x512x64, .f32⟩
  | 36 => ⟨S8x512x64, .f32⟩
  | 37 => ⟨S8x512x64, .f32⟩
  | 38 => ⟨S8x512x64, .f32⟩
  | 39 => ⟨S8x512x512x1x1, .f32⟩
  | 40 => ⟨S8x512x512, .f32⟩
  | 41 => ⟨S8x512x512, .f32⟩
  | 42 => ⟨S8x512x512x1x1, .f32⟩
  | 43 => ⟨S8x512x512, .f32⟩
  | 44 => ⟨S8x512x512, .f32⟩
  | 45 => ⟨S1x64x64, .f32⟩
  | 46 => ⟨S64x64, .f32⟩
  | 47 => ⟨S8x512x64, .f32⟩
  | 48 => ⟨S8x512x64, .f32⟩
  | 49 => ⟨S8x512x64, .f32⟩
  | 50 => ⟨S8x512x64, .f32⟩
  | 51 => ⟨S8x512x64, .f32⟩
  | 52 => ⟨S8x512x512x1x1, .f32⟩
  | 53 => ⟨S8x512x512, .f32⟩
  | 54 => ⟨S8x512x512, .f32⟩
  | 55 => ⟨S8x512x512x1x1, .f32⟩
  | 56 => ⟨S8x512x512, .f32⟩
  | 57 => ⟨S8x512x512, .f32⟩
  | 58 => ⟨S1x64x64, .f32⟩
  | 59 => ⟨S64x64, .f32⟩
  | 60 => ⟨S8x512x64, .f32⟩
  | 61 => ⟨S8x512x64, .f32⟩
  | 62 => ⟨S8x512x64, .f32⟩
  | 63 => ⟨S8x512x64, .f32⟩
  | 64 => ⟨S8x512x64, .f32⟩
  | 65 => ⟨S8x512x512x1x1, .f32⟩
  | 66 => ⟨S8x512x512, .f32⟩
  | 67 => ⟨S8x512x512, .f32⟩
  | 68 => ⟨S8x512x512x1x1, .f32⟩
  | 69 => ⟨S8x512x512, .f32⟩
  | 70 => ⟨S8x512x512, .f32⟩
  | 71 => ⟨S1x64x64, .f32⟩
  | 72 => ⟨S64x64, .f32⟩
  | 73 => ⟨S8x512x64, .f32⟩
  | 74 => ⟨S8x512x64, .f32⟩
  | 75 => ⟨S8x512x64, .f32⟩
  | 76 => ⟨S8x512x64, .f32⟩
  | 77 => ⟨S8x512x64, .f32⟩
  | 78 => ⟨S_, .f32⟩
  | 79 => ⟨S8x512x64, .f32⟩
  | 80 => ⟨S8x512x64, .f32⟩
  | 81 => ⟨S_, .f32⟩
  | 82 => ⟨S8x64, .f32⟩
  | 83 => ⟨S8x10, .f32⟩
  | 84 => ⟨S1x10, .f32⟩
  | 85 => ⟨S8x10, .f32⟩
  | 86 => ⟨S8x10, .f32⟩
  | _ => ⟨S8x512x146, .f32⟩

abbrev hbmTy (i : Nat) : BufTy := match i / 128 with
  | 0 => hbmTy0_0 i
  | 1 => hbmTy0_1 i
  | 2 => hbmTy0_2 i
  | 3 => hbmTy0_3 i
  | _ => ⟨S8x512x146, .f32⟩

abbrev bufTy : (tb : Table) → Fin (tcTables nBuf tb) → BufTy
  | .hbm, ⟨i, _⟩ => hbmTy i
  | _, _ => ⟨S8x512x146, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_call0_v0 : Ref sig .tc := ⟨.hbm, 76, rfl⟩
abbrev main_call0_v1 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_call1_cst : Ref sig .tc := ⟨.hbm, 200, rfl⟩
abbrev main_call1_v0 : Ref sig .tc := ⟨.hbm, 201, rfl⟩
abbrev main_v172 : Ref sig .tc := ⟨.hbm, 202, rfl⟩
abbrev main_cst_11 : Ref sig .tc := ⟨.hbm, 203, rfl⟩
abbrev main_v173 : Ref sig .tc := ⟨.hbm, 204, rfl⟩
abbrev main_v174 : Ref sig .tc := ⟨.hbm, 205, rfl⟩
abbrev main_cst_12 : Ref sig .tc := ⟨.hbm, 206, rfl⟩
abbrev main_call2_v0 : Ref sig .tc := ⟨.hbm, 207, rfl⟩
abbrev main_call2_v1 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_call3_cst : Ref sig .tc := ⟨.hbm, 331, rfl⟩
abbrev main_call3_v0 : Ref sig .tc := ⟨.hbm, 332, rfl⟩
abbrev main_v297 : Ref sig .tc := ⟨.hbm, 333, rfl⟩
abbrev main_cst_13 : Ref sig .tc := ⟨.hbm, 334, rfl⟩
abbrev main_v298 : Ref sig .tc := ⟨.hbm, 335, rfl⟩
abbrev main_v299 : Ref sig .tc := ⟨.hbm, 336, rfl⟩
abbrev main_cst_14 : Ref sig .tc := ⟨.hbm, 337, rfl⟩
abbrev main_call4_v0 : Ref sig .tc := ⟨.hbm, 338, rfl⟩
abbrev main_call4_v1 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩
abbrev main_v355 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩
abbrev main_v368 : Ref sig .tc := ⟨.hbm, 408, rfl⟩
abbrev main_v369 : Ref sig .tc := ⟨.hbm, 409, rfl⟩
abbrev main_v370 : Ref sig .tc := ⟨.hbm, 410, rfl⟩
abbrev main_v371 : Ref sig .tc := ⟨.hbm, 411, rfl⟩
abbrev main_v372 : Ref sig .tc := ⟨.hbm, 412, rfl⟩
abbrev main_v373 : Ref sig .tc := ⟨.hbm, 413, rfl⟩
abbrev main_v374 : Ref sig .tc := ⟨.hbm, 414, rfl⟩
abbrev main_v375 : Ref sig .tc := ⟨.hbm, 415, rfl⟩
abbrev main_v376 : Ref sig .tc := ⟨.hbm, 416, rfl⟩
abbrev main_v377 : Ref sig .tc := ⟨.hbm, 417, rfl⟩
abbrev main_v378 : Ref sig .tc := ⟨.hbm, 418, rfl⟩
abbrev main_v379 : Ref sig .tc := ⟨.hbm, 419, rfl⟩
abbrev main_v380 : Ref sig .tc := ⟨.hbm, 420, rfl⟩
abbrev main_v381 : Ref sig .tc := ⟨.hbm, 421, rfl⟩
abbrev main_v382 : Ref sig .tc := ⟨.hbm, 422, rfl⟩
abbrev main_v383 : Ref sig .tc := ⟨.hbm, 423, rfl⟩
abbrev main_v384 : Ref sig .tc := ⟨.hbm, 424, rfl⟩
abbrev main_v385 : Ref sig .tc := ⟨.hbm, 425, rfl⟩
abbrev main_v386 : Ref sig .tc := ⟨.hbm, 426, rfl⟩
abbrev main_v387 : Ref sig .tc := ⟨.hbm, 427, rfl⟩
abbrev main_v388 : Ref sig .tc := ⟨.hbm, 428, rfl⟩
abbrev main_v389 : Ref sig .tc := ⟨.hbm, 429, rfl⟩
abbrev main_v390 : Ref sig .tc := ⟨.hbm, 430, rfl⟩
abbrev main_v391 : Ref sig .tc := ⟨.hbm, 431, rfl⟩
abbrev main_v392 : Ref sig .tc := ⟨.hbm, 432, rfl⟩
abbrev main_v393 : Ref sig .tc := ⟨.hbm, 433, rfl⟩
abbrev main_v394 : Ref sig .tc := ⟨.hbm, 434, rfl⟩
abbrev main_v395 : Ref sig .tc := ⟨.hbm, 435, rfl⟩
abbrev main_v396 : Ref sig .tc := ⟨.hbm, 436, rfl⟩
abbrev main_v397 : Ref sig .tc := ⟨.hbm, 437, rfl⟩
abbrev main_v398 : Ref sig .tc := ⟨.hbm, 438, rfl⟩
abbrev main_v399 : Ref sig .tc := ⟨.hbm, 439, rfl⟩
abbrev main_v400 : Ref sig .tc := ⟨.hbm, 440, rfl⟩
abbrev main_v401 : Ref sig .tc := ⟨.hbm, 441, rfl⟩
abbrev main_v402 : Ref sig .tc := ⟨.hbm, 442, rfl⟩
abbrev main_v403 : Ref sig .tc := ⟨.hbm, 443, rfl⟩
abbrev main_v404 : Ref sig .tc := ⟨.hbm, 444, rfl⟩
abbrev main_v405 : Ref sig .tc := ⟨.hbm, 445, rfl⟩
abbrev main_v406 : Ref sig .tc := ⟨.hbm, 446, rfl⟩
abbrev main_v407 : Ref sig .tc := ⟨.hbm, 447, rfl⟩
abbrev main_v408 : Ref sig .tc := ⟨.hbm, 448, rfl⟩
abbrev main_v409 : Ref sig .tc := ⟨.hbm, 449, rfl⟩
abbrev main_v410 : Ref sig .tc := ⟨.hbm, 450, rfl⟩
abbrev main_v411 : Ref sig .tc := ⟨.hbm, 451, rfl⟩
abbrev main_v412 : Ref sig .tc := ⟨.hbm, 452, rfl⟩
abbrev main_v413 : Ref sig .tc := ⟨.hbm, 453, rfl⟩
abbrev main_v414 : Ref sig .tc := ⟨.hbm, 454, rfl⟩
abbrev main_v415 : Ref sig .tc := ⟨.hbm, 455, rfl⟩
abbrev main_v416 : Ref sig .tc := ⟨.hbm, 456, rfl⟩
abbrev main_v417 : Ref sig .tc := ⟨.hbm, 457, rfl⟩
abbrev main_v418 : Ref sig .tc := ⟨.hbm, 458, rfl⟩
abbrev main_v419 : Ref sig .tc := ⟨.hbm, 459, rfl⟩
abbrev main_v420 : Ref sig .tc := ⟨.hbm, 460, rfl⟩
abbrev main_v421 : Ref sig .tc := ⟨.hbm, 461, rfl⟩
abbrev main_call5_cst : Ref sig .tc := ⟨.hbm, 462, rfl⟩
abbrev main_call5_v0 : Ref sig .tc := ⟨.hbm, 463, rfl⟩
abbrev main_v422 : Ref sig .tc := ⟨.hbm, 464, rfl⟩
abbrev main_cst_15 : Ref sig .tc := ⟨.hbm, 465, rfl⟩
abbrev main_v423 : Ref sig .tc := ⟨.hbm, 466, rfl⟩
abbrev main_v424 : Ref sig .tc := ⟨.hbm, 467, rfl⟩
abbrev main_v425 : Ref sig .tc := ⟨.hbm, 468, rfl⟩
abbrev main_v426 : Ref sig .tc := ⟨.hbm, 469, rfl⟩
abbrev main_v427 : Ref sig .tc := ⟨.hbm, 470, rfl⟩

abbrev nD : Nat := 1
abbrev τ : Topo := Topo.v7x

variable {F : FTy → Type} [FloatOps F]
-- ==== Proof.Spec.lean ====
/- The mathematics both programs compute for one sample: pseudo-coordinates of every pair of nodes, the spline weights
   of the nine kernel nodes, three graph convolutions, the pooled scores. And the two laws that let the kernel divide
   once by the degree where the reference divides every message. -/
module

public import Idealize.ShloMosaic.Lib.Pointwise

@[expose] public section

noncomputable section

namespace Cert.Spline

open Idealize.ShloMosaic

/-- The small constant added under the square root and to the largest distance. -/
abbrev eps : EReal := Ideal.ofBits .f32 0x2B8CBCCC#32
/-- The offset added to the scaled angle. -/
abbrev half : EReal := Ideal.ofBits .f32 0x3F000000#32
/-- The number of intervals between spline nodes along one axis. -/
abbrev two : EReal := Ideal.ofBits .f32 0x40000000#32
/-- The value a maximum starts from. -/
abbrev low : EReal := Ideal.ofBits .f32 0xFF800000#32
/-- The reciprocal of the float 2π. -/
abbrev invTwoPi : EReal := ((2097152 / 13176795 : ℝ) : EReal)

/-- What the programs read for one sample: its node features, adjacency and coordinates, and the weights. -/
structure Data where
  /-- node features -/
  x : Fin 512 → Fin 146 → EReal
  /-- adjacency -/
  a : Fin 512 → Fin 512 → EReal
  /-- coordinates -/
  p : Fin 512 → Fin 2 → EReal
  /-- spline, root and bias weights of layer 1 -/
  W1 : Fin 9 → Fin 146 → Fin 64 → EReal
  R1 : Fin 146 → Fin 64 → EReal
  b1 : Fin 64 → EReal
  /-- spline, root and bias weights of layer 2 -/
  W2 : Fin 9 → Fin 64 → Fin 64 → EReal
  R2 : Fin 64 → Fin 64 → EReal
  b2 : Fin 64 → EReal
  /-- spline, root and bias weights of layer 3 -/
  W3 : Fin 9 → Fin 64 → Fin 64 → EReal
  R3 : Fin 64 → Fin 64 → EReal
  b3 : Fin 64 → EReal
  /-- weights and bias of the last product -/
  Wf : Fin 64 → Fin 10 → EReal
  bf : Fin 10 → EReal

/-- The hat function around the spline node `k`, at the scaled coordinate. -/
def hat (u k : EReal) : EReal := max 0 (1 - max (u * two - k) (-(u * two - k)))

/-- The place of the three spline nodes of one axis. -/
def node : Fin 3 → EReal := ![0, 1, two]

/-- The first axis' node of the nine kernel nodes. -/
def fst9 : Fin 9 → Fin 3 := ![0, 0, 0, 1, 1, 1, 2, 2, 2]
/-- The second axis' node of the nine kernel nodes. -/
def snd9 : Fin 9 → Fin 3 := ![0, 1, 2, 0, 1, 2, 0, 1, 2]

/-- Node `i`'s message through kernel node `k`: the weighted sum over neighbours of their transformed features. -/
def msg {n : ℕ} (w : Fin 9 → Fin 512 → Fin 512 → EReal) (h : Fin 512 → Fin n → EReal)
    (W : Fin 9 → Fin n → Fin 64 → EReal) (i : Fin 512) (c : Fin 64) (k : Fin 9) : EReal :=
  ∑ j, w k i j * ∑ f, h j f * W k f c

/-- One graph convolution with its rectifier: root product, bias and every message divided by the degree. -/
def layer {n : ℕ} (w : Fin 9 → Fin 512 → Fin 512 → EReal) (d : Fin 512 → EReal) (h : Fin 512 → Fin n → EReal)
    (W : Fin 9 → Fin n → Fin 64 → EReal) (R : Fin n → Fin 64 → EReal) (b : Fin 64 → EReal) (i : Fin 512) (c : Fin 64) :
    EReal :=
  max (∑ f, h i f * R f c + b c + ∑ k, Ideal.div (msg w h W i c k) (d i)) 0

namespace Data
variable (D : Data)

/-- 1 where there is an edge, otherwise 0. -/
def mask (i j : Fin 512) : EReal := if 0 < D.a i j then 1 else 0
/-- The difference of two nodes' coordinates. -/
def diff (d : Fin 2) (i j : Fin 512) : EReal := D.p j d - D.p i d
/-- The distance of two nodes. -/
def rho (i j : Fin 512) : EReal :=
  Ideal.sqrt (D.diff 0 i j * D.diff 0 i j + D.diff 1 i j * D.diff 1 i j + eps)
/-- The largest distance along an edge. -/
def rhoMax : EReal := (Finset.univ : Finset (Fin 512 × Fin 512)).fold max low fun x => D.rho x.1 x.2 * D.mask x.1 x.2
/-- The first pseudo-coordinate: the scaled distance. -/
def u0 (i j : Fin 512) : EReal := Ideal.div (D.rho i j) (D.rhoMax + eps) * D.mask i j
/-- The second pseudo-coordinate: the scaled angle. -/
def u1 (i j : Fin 512) : EReal :=
  (Ideal.atan2 (D.diff 1 i j) (D.diff 0 i j) * invTwoPi + half) * D.mask i j
/-- A node's degree, at least one. -/
def deg (i : Fin 512) : EReal := max (∑ j, D.a i j) 1
/-- The weight of an edge at a kernel node. -/
def wt (k : Fin 9) (i j : Fin 512) : EReal :=
  D.a i j * hat (D.u0 i j) (node (fst9 k)) * hat (D.u1 i j) (node (snd9 k))
/-- The features after the first layer. -/
def h1 : Fin 512 → Fin 64 → EReal := layer D.wt D.deg D.x D.W1 D.R1 D.b1
/-- The features after the second layer. -/
def h2 : Fin 512 → Fin 64 → EReal := layer D.wt D.deg D.h1 D.W2 D.R2 D.b2
/-- The features after the third layer. -/
def h3 : Fin 512 → Fin 64 → EReal := layer D.wt D.deg D.h2 D.W3 D.R3 D.b3
/-- The scores: the largest feature over all nodes, times the last weights, plus the bias. -/
def logits (c : Fin 10) : EReal :=
  ∑ f, (Finset.univ : Finset (Fin 512)).fold max low (fun i => D.h3 i f) * D.Wf f c + D.bf c

/-- A degree is at least one. -/
theorem one_le_deg (i : Fin 512) : 1 ≤ D.deg i := le_max_right _ _

end Data

/-- Dividing by a number that is at least one is multiplying by its quotient into one. -/
theorem div_eq_mul {d : EReal} (hd : 1 ≤ d) (x : EReal) : Ideal.div x d = x * Ideal.div 1 d := by
  have h0 : d ≠ 0 := fun h => by rw [h] at hd; exact absurd hd (by norm_num)
  simp [Ideal.div, h0]

/-- The quotient of one by a number that is at least one is not negative. -/
theorem div_one_nonneg {d : EReal} (hd : 1 ≤ d) : 0 ≤ Ideal.div 1 d := by
  have h0 : d ≠ 0 := fun h => by rw [h] at hd; exact absurd hd (by norm_num)
  simpa [Ideal.div, h0] using EReal.inv_nonneg_of_nonneg (le_trans zero_le_one hd)

/-- The quotient of one by a number that is at least one is finite. -/
theorem div_one_ne_top {d : EReal} (hd : 1 ≤ d) : Ideal.div 1 d ≠ ⊤ := by
  have h0 : d ≠ 0 := fun h => by rw [h] at hd; exact absurd hd (by norm_num)
  simpa [Ideal.div, h0] using (EReal.inv_lt_top d).ne

/-- A sum over the nine kernel nodes, written out. -/
theorem sum_nine (m : Fin 9 → EReal) :
    ∑ k, m k = m 0 + m 1 + m 2 + m 3 + m 4 + m 5 + m 6 + m 7 + m 8 := by
  rw [Fin.sum_univ_castSucc, Fin.sum_univ_eight]; rfl

/-- The sum of the nine quotients by the degree is the sum of the nine messages, times the degree's quotient into one. -/
theorem sum_div {d : EReal} (hd : 1 ≤ d) (m : Fin 9 → EReal) :
    ∑ k, Ideal.div (m k) d = (∑ k, m k) * Ideal.div 1 d := by
  rw [sum_nine, sum_nine]
  simp only [EReal.right_distrib_of_nonneg_of_ne_top (div_one_nonneg hd) (div_one_ne_top hd), ← div_eq_mul hd]

/-- The kernel's layer, which adds the even and the odd messages apart and multiplies their sum once by the degree's
    quotient into one, is the layer. -/
theorem layer_eq {n : ℕ} {w : Fin 9 → Fin 512 → Fin 512 → EReal} {d : Fin 512 → EReal} {h : Fin 512 → Fin n → EReal}
    {W : Fin 9 → Fin n → Fin 64 → EReal} {R : Fin n → Fin 64 → EReal} {b : Fin 64 → EReal} (hd : ∀ i, 1 ≤ d i)
    (i : Fin 512) (c : Fin 64) :
    max (∑ f, h i f * R f c + b c + (msg w h W i c 0 + msg w h W i c 2 + msg w h W i c 4 + msg w h W i c 6 +
      msg w h W i c 8 + (msg w h W i c 1 + msg w h W i c 3 + msg w h W i c 5 + msg w h W i c 7)) * Ideal.div 1 (d i)) 0
      = layer w d h W R b i c := by
  rw [layer, sum_div (hd i), sum_nine]
  congr 3
  abel

/-- Sample `s` of the argument arrays. -/
def data (x : (⟨3, ![8, 512, 146]⟩ : Shape).Idx → EReal) (a : (⟨3, ![8, 512, 512]⟩ : Shape).Idx → EReal)
    (p : (⟨3, ![8, 512, 2]⟩ : Shape).Idx → EReal)
    (W1 : (⟨3, ![9, 146, 64]⟩ : Shape).Idx → EReal) (R1 : (⟨2, ![146, 64]⟩ : Shape).Idx → EReal)
    (b1 : (⟨1, ![64]⟩ : Shape).Idx → EReal)
    (W2 : (⟨3, ![9, 64, 64]⟩ : Shape).Idx → EReal) (R2 : (⟨2, ![64, 64]⟩ : Shape).Idx → EReal)
    (b2 : (⟨1, ![64]⟩ : Shape).Idx → EReal)
    (W3 : (⟨3, ![9, 64, 64]⟩ : Shape).Idx → EReal) (R3 : (⟨2, ![64, 64]⟩ : Shape).Idx → EReal)
    (b3 : (⟨1, ![64]⟩ : Shape).Idx → EReal)
    (Wf : (⟨2, ![64, 10]⟩ : Shape).Idx → EReal) (bf : (⟨1, ![10]⟩ : Shape).Idx → EReal) (s : Fin 8) : Data where
  x i f := x (ix3 s i f)
  a i j := a (ix3 s i j)
  p i d := p (ix3 s i d)
  W1 k f c := W1 (ix3 k f c)
  R1 f c := R1 (ix2 f c)
  b1 c := b1 (ix1 c)
  W2 k f c := W2 (ix3 k f c)
  R2 f c := R2 (ix2 f c)
  b2 c := b2 (ix1 c)
  W3 k f c := W3 (ix3 k f c)
  R3 f c := R3 (ix2 f c)
  b3 c := b3 (ix1 c)
  Wf f c := Wf (ix2 f c)
  bf c := bf (ix1 c)

end Cert.Spline

end
-- ==== Proof.KernelCoords.lean ====
/- The kernel's pseudo-coordinates, spline weights and degrees on one sample, over any vectors that hold the sample's
   adjacency and coordinates. -/
module

public import proofs.«01_k».proof.Proof.Gen.KernelIdeal.Skeleton
public import proofs.«01_k».proof.Proof.Spec

@[expose] public section

set_option maxRecDepth 16384

noncomputable section

namespace Cert.Spline

open Idealize.ShloMosaic Idealize.ShloMosaic.TcCoe
open Cert.KernelIdeal Cert.KernelIdeal.Gen

/-- The word of a comparison, widened and read as a float, is one or zero. -/
theorem sitofp_ofBool (q : Prop) [Decidable q] :
    FloatOps.sitofp (F := Ideal) FTy.f32 (BitVec.setWidth 32 (BitVec.ofBool (decide q))) = if q then 1 else 0 := by
  have h1 : (BitVec.setWidth 32 (BitVec.ofBool true)).toInt = 1 := by decide
  have h0 : (BitVec.setWidth 32 (BitVec.ofBool false)).toInt = 0 := by decide
  have hs (b : BitVec 32) : FloatOps.sitofp (F := Ideal) FTy.f32 b = ((b.toInt : ℝ) : EReal) := rfl
  by_cases h : q <;> simp only [h, decide_true, decide_false, hs, h0, h1] <;> simp

/-- The absolute value is the larger of a number and its negation. -/
theorem absf_read (x : EReal) : FloatOps.absf (F := Ideal) (φ := FTy.f32) x = max x (-x) := rfl

variable {D : Data} {v0 : Vec Ideal S1x512x512 .f32} {v2 v4 : Vec Ideal S1x1x512 .f32} {v6 v8 : Vec Ideal S1x512x1 .f32}

/-- The vectors that hold a sample's adjacency, and its coordinates along rows and columns. -/
structure Points (D : Data) (v0 : Vec Ideal S1x512x512 .f32) (v2 v4 : Vec Ideal S1x1x512 .f32)
    (v6 v8 : Vec Ideal S1x512x1 .f32) : Prop where
  a : ∀ i j, v0 (ix3 0 i j) = D.a i j
  r0 : ∀ j, v2 (ix3 0 0 j) = D.p j 0
  r1 : ∀ j, v4 (ix3 0 0 j) = D.p j 1
  c0 : ∀ i, v6 (ix3 0 i 0) = D.p i 0
  c1 : ∀ i, v8 (ix3 0 i 0) = D.p i 1

/-- The adjacency the body reads is the sample's. -/
theorem adj_read (P : Points D v0 v2 v4 v6 v8) (i j : Fin 512) : k0_pay2 v0 (ix2 i j) = D.a i j := by
  pointwise [k0_pay2]; exact P.a i j

/-- The mask the body computes is the sample's. -/
theorem mask_read (P : Points D v0 v2 v4 v6 v8) (i j : Fin 512) : k0_pay5 v0 (ix2 i j) = D.mask i j := by
  pointwise [k0_pay5]; rw [sitofp_ofBool, adj_read P]; rfl

/-- The differences of the first coordinates are the sample's. -/
theorem diff0_read (P : Points D v0 v2 v4 v6 v8) (i j : Fin 512) : k0_pay3 v2 v6 (ix2 i j) = D.diff 0 i j := by
  pointwise [k0_pay3]; rw [P.r0, P.c0]; rfl

/-- The differences of the second coordinates are the sample's. -/
theorem diff1_read (P : Points D v0 v2 v4 v6 v8) (i j : Fin 512) : k0_pay4 v4 v8 (ix2 i j) = D.diff 1 i j := by
  pointwise [k0_pay4]; rw [P.r1, P.c1]; rfl

/-- The first pseudo-coordinate. -/
theorem u0_read (P : Points D v0 v2 v4 v6 v8) (i j : Fin 512) : k0_pay6 v0 v2 v4 v6 v8 (ix2 i j) = D.u0 i j := by
  pointwise [k0_pay6]
  simp only [mask_read P, diff0_read P, diff1_read P]
  rfl

/-- The scaled angle, before its offset and mask. -/
theorem angle_read (P : Points D v0 v2 v4 v6 v8) (i j : Fin 512) :
    k0_pay7 v2 v4 v6 v8 (ix2 i j) = Ideal.atan2 (D.diff 1 i j) (D.diff 0 i j) * invTwoPi := by
  pointwise [k0_pay7]
  rw [diff0_read P, diff1_read P, IdealRules.named_const.ideal_named_scalar _ _ _ _ rfl]

/-- The second pseudo-coordinate. -/
theorem u1_read (P : Points D v0 v2 v4 v6 v8) (i j : Fin 512) :
    k0_pay8 (k0_pay5 v0) (k0_pay7 v2 v4 v6 v8) (Scalar.ofBits .f32 0x3F000000#32) (ix2 i j) = D.u1 i j := by
  pointwise [k0_pay8]
  rw [mask_read P, angle_read P]
  rfl

/-- The hat functions of the first pseudo-coordinate. -/
theorem hat0_read {v : FVec Ideal S512x512 .f32} (i j : Fin 512) :
    k0_pay13 v (ix2 i j) = hat (v (ix2 i j)) (node 0) ∧ k0_pay14 v (ix2 i j) = hat (v (ix2 i j)) (node 1) ∧
      k0_pay15 v (ix2 i j) = hat (v (ix2 i j)) (node 2) := by
  refine ⟨?_, ?_, ?_⟩
  · pointwise [k0_pay13, k0_pay11]; rw [absf_read, hat]; simp [node]
  · pointwise [k0_pay14, k0_pay11]; rw [absf_read, hat]; rfl
  · pointwise [k0_pay15, k0_pay11]; rw [absf_read, hat]; rfl

/-- The hat functions of the second pseudo-coordinate. -/
theorem hat1_read {a b : FVec Ideal S512x512 .f32} {z : Ideal .f32} (i j : Fin 512) :
    max 0 (k0_pay16 a b z (ix2 i j)) = hat (k0_pay8 a b z (ix2 i j)) (node 0) ∧
      k0_pay18 (k0_pay12 a b z) (ix2 i j) = hat (k0_pay8 a b z (ix2 i j)) (node 1) ∧
      k0_pay19 (k0_pay12 a b z) (ix2 i j) = hat (k0_pay8 a b z (ix2 i j)) (node 2) := by
  refine ⟨?_, ?_, ?_⟩
  · pointwise [k0_pay16, k0_pay12]; rw [absf_read, hat]; simp [node]
  · pointwise [k0_pay18, k0_pay12]; rw [absf_read, hat]; rfl
  · pointwise [k0_pay19, k0_pay12]; rw [absf_read, hat]; rfl

/-- The degree's quotient into one. -/
theorem deg_read (P : Points D v0 v2 v4 v6 v8) (i : Fin 512) :
    k0_pay20 (k0_pay2 v0) (ix2 i 0) = Ideal.div 1 (D.deg i) := by
  pointwise [k0_pay20]
  simp only [adj_read P]
  rfl

end Cert.Spline

end
-- ==== Proof.KernelLayers.lean ====
/- The kernel's three graph convolutions on one sample, over any vectors that hold the edge weights, the degrees'
   quotients, the features and the flattened spline weights. -/
module

public import proofs.«01_k».proof.Proof.Gen.KernelIdeal.Skeleton
public import proofs.«01_k».proof.Proof.Spec

@[expose] public section

set_option maxRecDepth 16384

noncomputable section

namespace Cert.Spline

open Idealize.ShloMosaic Idealize.ShloMosaic.TcCoe
open Cert.KernelIdeal Cert.KernelIdeal.Gen

/-- The column of the flattened spline weights that holds kernel node `k`'s output feature `c`. -/
def col (k : Fin 9) (c : Fin 64) : Fin 576 := ⟨64 * k.val + c.val, by omega⟩

/-- A column past `o = 64 * k` of the flattened weights, read. -/
theorem col_read {n : ℕ} {v : (⟨2, ![n, 576]⟩ : Shape).Idx → EReal} {W : Fin 9 → Fin n → Fin 64 → EReal}
    (hW : ∀ k f c, v (ix2 f (col k c)) = W k f c) (k : Fin 9) (o : ℕ) (ho : o = 64 * k.val) (f : Fin n) (c : Fin 64)
    (h : o + c.val < 576) : v (ix2 f ⟨o + c.val, h⟩) = W k f c := by
  subst ho; exact hW k f c

/-- One of the first 64 columns of the flattened weights, read. -/
theorem col_read_zero {n : ℕ} {v : (⟨2, ![n, 576]⟩ : Shape).Idx → EReal} {W : Fin 9 → Fin n → Fin 64 → EReal}
    (hW : ∀ k f c, v (ix2 f (col k c)) = W k f c) (f : Fin n) (c : Fin 64) (h : c.val < 576) :
    v (ix2 f ⟨c.val, h⟩) = W 0 f c := by
  rw [← hW]; congr 2; simp [col]

/-- The nine vectors that hold the edge weights, and the one that holds the degrees' quotients into one. -/
structure Edges (w : Fin 9 → Fin 512 → Fin 512 → EReal) (d : Fin 512 → EReal) (v98 : FVec Ideal S512x1 .f32)
    (v103 v105 v107 v109 v111 v113 v115 v117 v119 : FVec Ideal S512x512 .bf16) : Prop where
  inv : ∀ i, v98 (ix2 i 0) = Ideal.div 1 (d i)
  w0 : ∀ i j, v103 (ix2 i j) = w 0 i j
  w1 : ∀ i j, v105 (ix2 i j) = w 1 i j
  w2 : ∀ i j, v107 (ix2 i j) = w 2 i j
  w3 : ∀ i j, v109 (ix2 i j) = w 3 i j
  w4 : ∀ i j, v111 (ix2 i j) = w 4 i j
  w5 : ∀ i j, v113 (ix2 i j) = w 5 i j
  w6 : ∀ i j, v115 (ix2 i j) = w 6 i j
  w7 : ∀ i j, v117 (ix2 i j) = w 7 i j
  w8 : ∀ i j, v119 (ix2 i j) = w 8 i j

variable {w : Fin 9 → Fin 512 → Fin 512 → EReal} {d : Fin 512 → EReal} {v98 : FVec Ideal S512x1 .f32}
  {v103 v105 v107 v109 v111 v113 v115 v117 v119 : FVec Ideal S512x512 .bf16}

/-- The first layer. -/
theorem first_layer (E : Edges w d v98 v103 v105 v107 v109 v111 v113 v115 v117 v119) (hd : ∀ i, 1 ≤ d i)
    {h : Fin 512 → Fin 146 → EReal} {W : Fin 9 → Fin 146 → Fin 64 → EReal} {R : Fin 146 → Fin 64 → EReal}
    {b : Fin 64 → EReal} {x : FVec Ideal S512x146 .f32} {vW : Vec Ideal S146x576 .f32} {vR : Vec Ideal S146x64 .f32}
    {vb : Vec Ideal S1x64 .f32} (hx : ∀ i f, x (ix2 i f) = h i f) (hW : ∀ k f c, vW (ix2 f (col k c)) = W k f c)
    (hR : ∀ f c, vR (ix2 f c) = R f c) (hb : ∀ c, vb (ix2 0 c) = b c) (i : Fin 512) (c : Fin 64) :
    k0_pay35 (k0_pay34 v98 v103 v105 v107 v109 v111 v113 v115 v117 v119 x vW vR vb) (ix2 i c) =
      layer w d h W R b i c := by
  rw [← layer_eq hd]
  pointwise [k0_pay35, k0_pay34]
  simp only [E.inv, E.w0, E.w1, E.w2, E.w3, E.w4, E.w5, E.w6, E.w7, E.w8, hx, hR, hb, col_read_zero hW,
    col_read hW 1 64 rfl, col_read hW 2 128 rfl, col_read hW 3 192 rfl, col_read hW 4 256 rfl, col_read hW 5 320 rfl,
    col_read hW 6 384 rfl, col_read hW 7 448 rfl, col_read hW 8 512 rfl, msg]

/-- The second layer, over the first layer's features. -/
theorem second_layer (E : Edges w d v98 v103 v105 v107 v109 v111 v113 v115 v117 v119) (hd : ∀ i, 1 ≤ d i)
    {h : Fin 512 → Fin 64 → EReal} {W : Fin 9 → Fin 64 → Fin 64 → EReal} {R : Fin 64 → Fin 64 → EReal}
    {b : Fin 64 → EReal} {v164 : FVec Ideal S512x64 .f32} {vW : Vec Ideal S64x576 .f32} {vR : Vec Ideal S64x64 .f32}
    {vb : Vec Ideal S1x64 .f32} (hx : ∀ i f, k0_pay35 v164 (ix2 i f) = h i f)
    (hW : ∀ k f c, vW (ix2 f (col k c)) = W k f c)
    (hR : ∀ f c, vR (ix2 f c) = R f c) (hb : ∀ c, vb (ix2 0 c) = b c) (i : Fin 512) (c : Fin 64) :
    k0_pay41 v98 (k0_pay36 v164 vR vb) (k0_pay38 v103 v107 v111 v115 v164 vW) (k0_pay39 v105 v109 v113 v117 v164 vW)
      (k0_pay40 v119 v164 vW) (ix2 i c) = layer w d h W R b i c := by
  rw [← layer_eq hd]
  pointwise [k0_pay41, k0_pay36, k0_pay38, k0_pay39, k0_pay40, k0_pay37]
  simp only [E.inv, E.w0, E.w1, E.w2, E.w3, E.w4, E.w5, E.w6, E.w7, E.w8, hx, hR, hb, col_read_zero hW,
    col_read hW 1 64 rfl, col_read hW 2 128 rfl, col_read hW 3 192 rfl, col_read hW 4 256 rfl, col_read hW 5 320 rfl,
    col_read hW 6 384 rfl, col_read hW 7 448 rfl, col_read hW 8 512 rfl, msg]

/-- The third layer, its largest features over the nodes, and the last product. -/
theorem scores (E : Edges w d v98 v103 v105 v107 v109 v111 v113 v115 v117 v119) (hd : ∀ i, 1 ≤ d i)
    {h : Fin 512 → Fin 64 → EReal} {W : Fin 9 → Fin 64 → Fin 64 → EReal} {R : Fin 64 → Fin 64 → EReal}
    {b : Fin 64 → EReal} {Wf : Fin 64 → Fin 10 → EReal} {bf : Fin 10 → EReal}
    {v175 v199 v202 v204 : FVec Ideal S512x64 .f32} {vW : Vec Ideal S64x576 .f32} {vR : Vec Ideal S64x64 .f32}
    {vb : Vec Ideal S1x64 .f32} {vWf : Vec Ideal S64x10 .f32} {vbf : Vec Ideal S1x10 .f32}
    (hx : ∀ i f, k0_pay41 v98 v175 v199 v202 v204 (ix2 i f) = h i f) (hW : ∀ k f c, vW (ix2 f (col k c)) = W k f c)
    (hR : ∀ f c, vR (ix2 f c) = R f c) (hb : ∀ c, vb (ix2 0 c) = b c) (hWf : ∀ f c, vWf (ix2 f c) = Wf f c)
    (hbf : ∀ c, vbf (ix2 0 c) = bf c) (c : Fin 10) :
    k0_pay1 v98 v117 v119 (k0_pay42 v98 v175 v199 v202 v204 vR vb) (k0_pay43 v98 v175 v199 v202 v204 vW)
      (k0_pay44 v98 v105 v109 v113 v175 v199 v202 v204 vW) (k0_pay45 v98 v103 v107 v111 v115 v175 v199 v202 v204 vW)
      (k0_pay46 v98 v175 v199 v202 v204 vW) (constant S512x64 .f32 0x00000000#32) vWf vbf (ix3 0 0 c) =
      ∑ f, (Finset.univ : Finset (Fin 512)).fold max low (fun i => layer w d h W R b i f) * Wf f c + bf c := by
  simp only [← layer_eq hd]
  pointwise [k0_pay1, k0_pay42, k0_pay43, k0_pay44, k0_pay45, k0_pay46]
  simp only [E.inv, E.w0, E.w1, E.w2, E.w3, E.w4, E.w5, E.w6, E.w7, E.w8, hx, hR, hb, hWf, hbf, col_read_zero hW,
    col_read hW 1 64 rfl, col_read hW 2 128 rfl, col_read hW 3 192 rfl, col_read hW 4 256 rfl, col_read hW 5 320 rfl,
    col_read hW 6 384 rfl, col_read hW 7 448 rfl, col_read hW 8 512 rfl, msg]

end Cert.Spline

end
-- ==== Proof.KernelBlock.lean ====
/- What the kernel leaves of one sample: the nine edge weights, the two pseudo-coordinates and the scores, over any blocks
   that hold the sample. -/
module

public import proofs.«01_k».proof.Proof.Gen.KernelIdeal.Frame
public import proofs.«01_k».proof.Proof.KernelCoords
public import proofs.«01_k».proof.Proof.KernelLayers
public import Idealize.ShloMosaic.Lib.Pipeline.ValueKit

@[expose] public section

set_option maxRecDepth 16384

noncomputable section

namespace Cert.Spline

open Idealize.ShloMosaic Idealize.ShloMosaic.TcCoe
open Cert.KernelIdeal Cert.KernelIdeal.Gen

/-- The kernel's nine weight vectors and its degree vector hold the sample's edge weights and degrees. -/
theorem edges {D : Data} {v0 : Vec Ideal S1x512x512 .f32} {v2 v4 : Vec Ideal S1x1x512 .f32}
    {v6 v8 : Vec Ideal S1x512x1 .f32} (P : Points D v0 v2 v4 v6 v8) {a m t u : FVec Ideal S512x512 .f32} {z : Ideal .f32}
    (ha : a = k0_pay2 v0) (hm : m = k0_pay5 v0) (ht : t = k0_pay7 v2 v4 v6 v8) (hu : u = k0_pay6 v0 v2 v4 v6 v8)
    (hz : z = Scalar.ofBits .f32 0x3F000000#32) :
    Edges D.wt D.deg (k0_pay20 a) (k0_pay24 a (k0_pay13 u) (k0_pay16 m t z)) (k0_pay25 a (k0_pay12 m t z) (k0_pay13 u))
      (k0_pay26 a (k0_pay12 m t z) (k0_pay13 u)) (k0_pay27 a (k0_pay14 u) (k0_pay16 m t z))
      (k0_pay28 a (k0_pay12 m t z) (k0_pay14 u)) (k0_pay29 a (k0_pay12 m t z) (k0_pay14 u))
      (k0_pay30 a (k0_pay15 u) (k0_pay16 m t z)) (k0_pay31 a (k0_pay12 m t z) (k0_pay15 u))
      (k0_pay32 a (k0_pay12 m t z) (k0_pay15 u)) := by
  subst ha hm ht hu
  have U1 (i j) : k0_pay8 (k0_pay5 v0) (k0_pay7 v2 v4 v6 v8) z (ix2 i j) = D.u1 i j := by rw [hz]; exact u1_read P i j
  have A := adj_read P
  have H0 (i j) := (hat0_read (v := k0_pay6 v0 v2 v4 v6 v8) i j).1
  have H1 (i j) := (hat0_read (v := k0_pay6 v0 v2 v4 v6 v8) i j).2.1
  have H2 (i j) := (hat0_read (v := k0_pay6 v0 v2 v4 v6 v8) i j).2.2
  have K0 (i j) := (hat1_read (a := k0_pay5 v0) (b := k0_pay7 v2 v4 v6 v8) (z := z) i j).1
  have K1 (i j) := (hat1_read (a := k0_pay5 v0) (b := k0_pay7 v2 v4 v6 v8) (z := z) i j).2.1
  have K2 (i j) := (hat1_read (a := k0_pay5 v0) (b := k0_pay7 v2 v4 v6 v8) (z := z) i j).2.2
  simp only [u0_read P] at H0 H1 H2
  simp only [U1] at K0 K1 K2
  refine ⟨deg_read P, ?_, ?_, ?_, ?_, ?_, ?_, ?_, ?_, ?_⟩ <;> intro i j
  · pointwise [k0_pay24, k0_pay17, k0_pay21]; rw [A, H0, K0]; rfl
  · pointwise [k0_pay25, k0_pay21]; rw [A, H0, K1]; rfl
  · pointwise [k0_pay26, k0_pay21]; rw [A, H0, K2]; rfl
  · pointwise [k0_pay27, k0_pay17, k0_pay22]; rw [A, H1, K0]; rfl
  · pointwise [k0_pay28, k0_pay22]; rw [A, H1, K1]; rfl
  · pointwise [k0_pay29, k0_pay22]; rw [A, H1, K2]; rfl
  · pointwise [k0_pay30, k0_pay17, k0_pay23]; rw [A, H2, K0]; rfl
  · pointwise [k0_pay31, k0_pay23]; rw [A, H2, K1]; rfl
  · pointwise [k0_pay32, k0_pay23]; rw [A, H2, K2]; rfl

/-- The blocks of one grid point hold the sample. -/
structure Reads (D : Data) (x0 : Vec Ideal S1x2x512 .f32) (x1 : Vec Ideal S1x512x2 .f32) (x2 : Vec Ideal S1x512x512 .f32)
    (x3 : Vec Ideal S1x512x146 .f32) (x4 : Vec Ideal S146x576 .f32) (x5 : Vec Ideal S146x64 .f32)
    (x6 : Vec Ideal S1x64 .f32) (x7 : Vec Ideal S64x576 .f32) (x8 : Vec Ideal S64x64 .f32) (x9 : Vec Ideal S1x64 .f32)
    (x10 : Vec Ideal S64x576 .f32) (x11 : Vec Ideal S64x64 .f32) (x12 : Vec Ideal S1x64 .f32)
    (x13 : Vec Ideal S64x10 .f32) (x14 : Vec Ideal S1x10 .f32) : Prop where
  row : ∀ d j, x0 (ix3 0 d j) = D.p j d
  column : ∀ i d, x1 (ix3 0 i d) = D.p i d
  a : ∀ i j, x2 (ix3 0 i j) = D.a i j
  x : ∀ i f, x3 (ix3 0 i f) = D.x i f
  W1 : ∀ k f c, x4 (ix2 f (col k c)) = D.W1 k f c
  R1 : ∀ f c, x5 (ix2 f c) = D.R1 f c
  b1 : ∀ c, x6 (ix2 0 c) = D.b1 c
  W2 : ∀ k f c, x7 (ix2 f (col k c)) = D.W2 k f c
  R2 : ∀ f c, x8 (ix2 f c) = D.R2 f c
  b2 : ∀ c, x9 (ix2 0 c) = D.b2 c
  W3 : ∀ k f c, x10 (ix2 f (col k c)) = D.W3 k f c
  R3 : ∀ f c, x11 (ix2 f c) = D.R3 f c
  b3 : ∀ c, x12 (ix2 0 c) = D.b3 c
  Wf : ∀ f c, x13 (ix2 f c) = D.Wf f c
  bf : ∀ c, x14 (ix2 0 c) = D.bf c

variable {D : Data} {x0 : Vec Ideal S1x2x512 .f32} {x1 : Vec Ideal S1x512x2 .f32} {x2 : Vec Ideal S1x512x512 .f32}
    {x3 : Vec Ideal S1x512x146 .f32} {x4 : Vec Ideal S146x576 .f32} {x5 : Vec Ideal S146x64 .f32}
    {x6 : Vec Ideal S1x64 .f32} {x7 : Vec Ideal S64x576 .f32} {x8 : Vec Ideal S64x64 .f32} {x9 : Vec Ideal S1x64 .f32}
    {x10 : Vec Ideal S64x576 .f32} {x11 : Vec Ideal S64x64 .f32} {x12 : Vec Ideal S1x64 .f32}
    {x13 : Vec Ideal S64x10 .f32} {x14 : Vec Ideal S1x10 .f32}

/-- The body's loads of the adjacency and the coordinates hold the sample's. -/
theorem points (B : Reads D x0 x1 x2 x3 x4 x5 x6 x7 x8 x9 x10 x11 x12 x13 x14) :
    Points D (View.ld x2 r0_0) (View.ld x0 r0_1) (View.ld x0 r0_2) (View.ld x1 r0_3) (View.ld x1 r0_4) := by
  refine ⟨fun i j => ?_, fun j => ?_, fun j => ?_, fun i => ?_, fun i => ?_⟩ <;> pointwise
  · exact B.a i j
  · exact B.row 0 j
  · exact B.row 1 j
  · exact B.column i 0
  · exact B.column i 1

/-- The body's weight vectors and its degree vector hold the sample's. -/
theorem edges_of (B : Reads D x0 x1 x2 x3 x4 x5 x6 x7 x8 x9 x10 x11 x12 x13 x14) :
    Edges D.wt D.deg (k0_pay56 x0 x1 x2 x3 x4 x5 x6 x7 x8 x9 x10 x11 x12 x13 x14)
      (k0_pay57 x0 x1 x2 x3 x4 x5 x6 x7 x8 x9 x10 x11 x12 x13 x14)
      (k0_pay58 x0 x1 x2 x3 x4 x5 x6 x7 x8 x9 x10 x11 x12 x13 x14)
      (k0_pay59 x0 x1 x2 x3 x4 x5 x6 x7 x8 x9 x10 x11 x12 x13 x14)
      (k0_pay60 x0 x1 x2 x3 x4 x5 x6 x7 x8 x9 x10 x11 x12 x13 x14)
      (k0_pay61 x0 x1 x2 x3 x4 x5 x6 x7 x8 x9 x10 x11 x12 x13 x14)
      (k0_pay62 x0 x1 x2 x3 x4 x5 x6 x7 x8 x9 x10 x11 x12 x13 x14)
      (k0_pay63 x0 x1 x2 x3 x4 x5 x6 x7 x8 x9 x10 x11 x12 x13 x14)
      (k0_pay64 x0 x1 x2 x3 x4 x5 x6 x7 x8 x9 x10 x11 x12 x13 x14)
      (k0_pay65 x0 x1 x2 x3 x4 x5 x6 x7 x8 x9 x10 x11 x12 x13 x14) := by
  unfold k0_pay56 k0_pay57 k0_pay58 k0_pay59 k0_pay60 k0_pay61 k0_pay62 k0_pay63 k0_pay64 k0_pay65
  unfold k0_pay51 k0_pay52 k0_pay53 k0_pay54 k0_pay55
  exact edges (points B) rfl rfl rfl rfl rfl

/-- The features after the body's first layer. -/
theorem h1_of (B : Reads D x0 x1 x2 x3 x4 x5 x6 x7 x8 x9 x10 x11 x12 x13 x14) (i : Fin 512) (c : Fin 64) :
    k0_pay35 (k0_pay66 x0 x1 x2 x3 x4 x5 x6 x7 x8 x9 x10 x11 x12 x13 x14) (ix2 i c) = D.h1 i c := by
  unfold k0_pay66
  refine first_layer (edges_of B) D.one_le_deg (fun i f => ?_) (fun k f c => ?_) (fun f c => ?_) (fun c => ?_) i c
  · pointwise [k0_pay33]; exact B.x i f
  · pointwise; exact B.W1 k f c
  · pointwise; exact B.R1 f c
  · pointwise; exact B.b1 c

/-- The features after the body's second layer. -/
theorem h2_of (B : Reads D x0 x1 x2 x3 x4 x5 x6 x7 x8 x9 x10 x11 x12 x13 x14) (i : Fin 512) (c : Fin 64) :
    k0_pay41 (k0_pay56 x0 x1 x2 x3 x4 x5 x6 x7 x8 x9 x10 x11 x12 x13 x14)
      (k0_pay67 x0 x1 x2 x3 x4 x5 x6 x7 x8 x9 x10 x11 x12 x13 x14)
      (k0_pay68 x0 x1 x2 x3 x4 x5 x6 x7 x8 x9 x10 x11 x12 x13 x14)
      (k0_pay69 x0 x1 x2 x3 x4 x5 x6 x7 x8 x9 x10 x11 x12 x13 x14)
      (k0_pay70 x0 x1 x2 x3 x4 x5 x6 x7 x8 x9 x10 x11 x12 x13 x14) (ix2 i c) = D.h2 i c := by
  unfold k0_pay67 k0_pay68 k0_pay69 k0_pay70
  refine second_layer (edges_of B) D.one_le_deg (h1_of B) (fun k f c => ?_) (fun f c => ?_) (fun c => ?_) i c
  · pointwise; exact B.W2 k f c
  · pointwise; exact B.R2 f c
  · pointwise; exact B.b2 c

/-- The first pseudo-coordinates the body stores. -/
theorem out_u0 (B : Reads D x0 x1 x2 x3 x4 x5 x6 x7 x8 x9 x10 x11 x12 x13 x14) (i j : Fin 512) :
    out0_16 x0 x1 x2 x3 x4 x5 x6 x7 x8 x9 x10 x11 x12 x13 x14 (ix3 0 i j) = D.u0 i j := by
  frame_out
  pointwise [k0_pay9]
  exact u0_read (points B) i j

/-- The second pseudo-coordinates the body stores. -/
theorem out_u1 (B : Reads D x0 x1 x2 x3 x4 x5 x6 x7 x8 x9 x10 x11 x12 x13 x14) (i j : Fin 512) :
    out0_17 x0 x1 x2 x3 x4 x5 x6 x7 x8 x9 x10 x11 x12 x13 x14 (ix3 0 i j) = D.u1 i j := by
  frame_out
  pointwise [k0_pay10]
  exact u1_read (points B) i j

/-- The scores the body stores. -/
theorem out_scores (B : Reads D x0 x1 x2 x3 x4 x5 x6 x7 x8 x9 x10 x11 x12 x13 x14) (c : Fin 10) :
    out0_15 x0 x1 x2 x3 x4 x5 x6 x7 x8 x9 x10 x11 x12 x13 x14 (ix3 0 0 c) = D.logits c := by
  frame_out
  exact scores (edges_of B) D.one_le_deg (h2_of B) B.W3 B.R3 B.b3 B.Wf B.bf c

end Cert.Spline

end
-- ==== Proof.KernelReads.lean ====
/- The blocks a grid point reads hold one sample of the arguments. -/
module

public import proofs.«01_k».proof.Proof.KernelBlock

@[expose] public section

set_option maxRecDepth 16384

noncomputable section

namespace Cert.Spline

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The samples of the kernel's arguments. -/
def kdata (c : Dev nD) : Fin 8 → Data :=
  data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- Where each window's block sits at grid point `t`. -/
theorem idx : ∀ t : Fin cfg0.N, win0_0.index t = ![t.val, 0, 0] ∧ win0_1.index t = ![t.val, 0, 0] ∧
    win0_2.index t = ![t.val, 0, 0] ∧ win0_3.index t = ![t.val, 0, 0] ∧ win0_4.index t = ![0, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] ∧ win0_12.index t = ![0, 0] ∧
    win0_13.index t = ![0, 0] ∧ win0_14.index t = ![0, 0] ∧ win0_15.index t = ![t.val, 0, 0] ∧
    win0_16.index t = ![t.val, 0, 0] ∧ win0_17.index t = ![t.val, 0, 0] :=
  (by decide +kernel : ∀ t : Fin grid0.N, _)

/-- The grid point's number, as a sample's. -/
def smp (t : Fin cfg0.N) : Fin 8 := ⟨t.val, t.isLt⟩

/-- The flattened spline weights, as the region finds them. -/
theorem host_W1 (c : Dev nD) (s : Fin 8) (k : Fin 9) (f : Fin 146) (j : Fin 64) :
    (V m c main_v2 : S146x576.Idx → EReal) (ix2 f (col k j)) = (kdata m c s).W1 k f j := by
  simp only [V, V0, List.flatten_cons, List.flatten_nil, List.append_nil]
  after_results_simp
  pointwise [col]
  rfl

/-- The same of the second layer's weights. -/
theorem host_W2 (c : Dev nD) (s : Fin 8) (k : Fin 9) (f j : Fin 64) :
    (V m c main_v5 : S64x576.Idx → EReal) (ix2 f (col k j)) = (kdata m c s).W2 k f j := by
  simp only [V, V0, List.flatten_cons, List.flatten_nil, List.append_nil]
  after_results_simp
  pointwise [col]
  rfl

/-- The same of the third layer's weights. -/
theorem host_W3 (c : Dev nD) (s : Fin 8) (k : Fin 9) (f j : Fin 64) :
    (V m c main_v8 : S64x576.Idx → EReal) (ix2 f (col k j)) = (kdata m c s).W3 k f j := by
  simp only [V, V0, List.flatten_cons, List.flatten_nil, List.append_nil]
  after_results_simp
  pointwise [col]
  rfl

/-- The transposed coordinates and the biases as rows, as the region finds them. -/
theorem host_rows (c : Dev nD) (s : Fin 8) :
    (∀ d j, (V m c main_v0 : S8x2x512.Idx → EReal) (ix3 s d j) = (kdata m c s).p j d) ∧
    (∀ j, (V m c main_v3 : S1x64.Idx → EReal) (ix2 0 j) = (kdata m c s).b1 j) ∧
    (∀ j, (V m c main_v6 : S1x64.Idx → EReal) (ix2 0 j) = (kdata m c s).b2 j) ∧
    (∀ j, (V m c main_v9 : S1x64.Idx → EReal) (ix2 0 j) = (kdata m c s).b3 j) ∧
    (∀ j, (V m c main_v10 : S1x10.Idx → EReal) (ix2 0 j) = (kdata m c s).bf j) := by
  simp only [V, V0, List.flatten_cons, List.flatten_nil, List.append_nil]
  after_results_simp
  refine ⟨fun d j => ?_, fun j => ?_, fun j => ?_, fun j => ?_, fun j => ?_⟩ <;> pointwise <;> rfl

set_option maxHeartbeats 1000000 in
/-- The blocks of grid point `t` hold sample `t`. -/
theorem reads (c : Dev nD) (t : Fin cfg0.N) :
    Reads (kdata m c (smp t)) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) where
  row d j := (show iblk m c 0 t (ix3 0 d j) = V m c main_v0 (ix3 (smp t) d j) by blk_ext [iblk, idx t]; rfl).trans
    ((host_rows m c (smp t)).1 d j)
  column i d := by blk_ext [iblk, V, idx t]; rfl
  a i j := by blk_ext [iblk, V, idx t]; rfl
  x i f := by blk_ext [iblk, V, idx t]; rfl
  W1 k f j := (show iblk m c 4 t (ix2 f (col k j)) = V m c main_v2 (ix2 f (col k j)) by blk_ext [iblk, idx t]).trans
    (host_W1 m c _ k f j)
  R1 f j := by blk_ext [iblk, V, idx t]
  b1 j := (show iblk m c 6 t (ix2 0 j) = V m c main_v3 (ix2 0 j) by blk_ext [iblk, idx t]).trans
    ((host_rows m c (smp t)).2.1 j)
  W2 k f j := (show iblk m c 7 t (ix2 f (col k j)) = V m c main_v5 (ix2 f (col k j)) by blk_ext [iblk, idx t]).trans
    (host_W2 m c _ k f j)
  R2 f j := by blk_ext [iblk, V, idx t]
  b2 j := (show iblk m c 9 t (ix2 0 j) = V m c main_v6 (ix2 0 j) by blk_ext [iblk, idx t]).trans
    ((host_rows m c (smp t)).2.2.1 j)
  W3 k f j := (show iblk m c 10 t (ix2 f (col k j)) = V m c main_v8 (ix2 f (col k j)) by blk_ext [iblk, idx t]).trans
    (host_W3 m c _ k f j)
  R3 f j := by blk_ext [iblk, V, idx t]
  b3 j := (show iblk m c 12 t (ix2 0 j) = V m c main_v9 (ix2 0 j) by blk_ext [iblk, idx t]).trans
    ((host_rows m c (smp t)).2.2.2.1 j)
  Wf f j := by blk_ext [iblk, V, idx t]
  bf j := (show iblk m c 14 t (ix2 0 j) = V m c main_v10 (ix2 0 j) by blk_ext [iblk, idx t]).trans
    ((host_rows m c (smp t)).2.2.2.2 j)

end Cert.Spline

end
-- ==== Proof.KernelArray.lean ====
/- The three arrays the kernel's run leaves: the scores and the two pseudo-coordinates of every sample. -/
module

public import proofs.«01_k».proof.Proof.KernelReads

@[expose] public section

set_option maxRecDepth 16384

noncomputable section

namespace Cert.Spline

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The scores grid point `t` stores, at the place its block has in the array. -/
theorem point_scores (c : Dev nD) (t : Fin cfg0.N) (y : S1x1x10.Idx) :
    out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) y = (kdata m c ((win0_15.blk t).view.emb y 0)).logits ((win0_15.blk t).view.emb y 2) := by
  obtain ⟨d, rfl⟩ : ∃ d : Fin 10, y = (ix3 0 0 d : S1x1x10.Idx) := ⟨y 2, by
    funext k; fin_cases k
    · exact Subsingleton.elim (α := Fin 1) _ _
    · exact Subsingleton.elim (α := Fin 1) _ _
    · rfl⟩
  have e : (win0_15.blk t).view.emb (ix3 0 0 d : S1x1x10.Idx) = ix3 (smp t) 0 d := by
    blk_ext [idx t]
    rfl
  rw [e]
  exact out_scores (reads m c t) d

/-- The array of scores after the run. -/
theorem final_scores (c : Dev nD) :
    (dats m 0 c).arrAt 15 (cfgs 0).N = fun j : S8x1x10.Idx => (kdata m c (j 0)).logits (j 2) := by
  refine (dats m 0 c).arrAt_eq_of_covers 15 _ (by decide +kernel) fun t _ y => ?_
  blk_simp
  rw [after0_15]
  exact point_scores m c t y

/-- The first pseudo-coordinates grid point `t` stores, at the place its block has in the array. -/
theorem point_u0 (c : Dev nD) (t : Fin cfg0.N) (y : S1x512x512.Idx) :
    out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) y = (kdata m c ((win0_16.blk t).view.emb y 0)).u0 ((win0_16.blk t).view.emb y 1) ((win0_16.blk t).view.emb y 2) := by
  obtain ⟨i, j, rfl⟩ : ∃ i j : Fin 512, y = (ix3 0 i j : S1x512x512.Idx) := ⟨y 1, y 2, by
    funext k; fin_cases k
    · exact Subsingleton.elim (α := Fin 1) _ _
    · rfl
    · rfl⟩
  have e : (win0_16.blk t).view.emb (ix3 0 i j : S1x512x512.Idx) = ix3 (smp t) i j := by
    blk_ext [idx t]
    rfl
  rw [e]
  exact out_u0 (reads m c t) i j

/-- The array of first pseudo-coordinates after the run. -/
theorem final_u0 (c : Dev nD) :
    (dats m 0 c).arrAt 16 (cfgs 0).N = fun j : S8x512x512.Idx => (kdata m c (j 0)).u0 (j 1) (j 2) := by
  refine (dats m 0 c).arrAt_eq_of_covers 16 _ (by decide +kernel) fun t _ y => ?_
  blk_simp
  rw [after0_16]
  exact point_u0 m c t y

/-- The second pseudo-coordinates grid point `t` stores, at the place its block has in the array. -/
theorem point_u1 (c : Dev nD) (t : Fin cfg0.N) (y : S1x512x512.Idx) :
    out0_17 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) y = (kdata m c ((win0_17.blk t).view.emb y 0)).u1 ((win0_17.blk t).view.emb y 1) ((win0_17.blk t).view.emb y 2) := by
  obtain ⟨i, j, rfl⟩ : ∃ i j : Fin 512, y = (ix3 0 i j : S1x512x512.Idx) := ⟨y 1, y 2, by
    funext k; fin_cases k
    · exact Subsingleton.elim (α := Fin 1) _ _
    · rfl
    · rfl⟩
  have e : (win0_17.blk t).view.emb (ix3 0 i j : S1x512x512.Idx) = ix3 (smp t) i j := by
    blk_ext [idx t]
    rfl
  rw [e]
  exact out_u1 (reads m c t) i j

/-- The array of second pseudo-coordinates after the run. -/
theorem final_u1 (c : Dev nD) :
    (dats m 0 c).arrAt 17 (cfgs 0).N = fun j : S8x512x512.Idx => (kdata m c (j 0)).u1 (j 1) (j 2) := by
  refine (dats m 0 c).arrAt_eq_of_covers 17 _ (by decide +kernel) fun t _ y => ?_
  blk_simp
  rw [after0_17]
  exact point_u1 m c t y

end Cert.Spline

end
-- ==== Proof.KernelResult.lean ====
/- The kernel's two results: the arrays of the run, laid out by the host lines that follow it. -/
module

public import proofs.«01_k».proof.Proof.KernelArray

@[expose] public section

set_option maxRecDepth 16384

noncomputable section

namespace Cert.Spline

open Idealize.ShloMosaic Idealize.ShloMosaic.TcCoe Idealize.SL.Sem
open Cert.KernelIdeal Cert.KernelIdeal.Gen

variable (m : (ℓ : Loc nD τ sig) → Buf (Elt Ideal) ℓ)

/-- The result of scores. -/
def resultScores (D : Fin 8 → Data) : S8x10.Idx → EReal := fun j => (D (j 0)).logits (j 1)

/-- The result of pseudo-coordinates. -/
def resultPseudo (D : Fin 8 → Data) : S8x512x512x2.Idx → EReal := fun j =>
  if (j 3).val = 0 then (D (j 0)).u0 (j 1) (j 2) else (D (j 0)).u1 (j 1) (j 2)

/-- Dropping the axis of length one from the scores, over any array. -/
theorem reshape_read (v : FVec Ideal S8x1x10 .f32) (s : Fin 8) (d : Fin 10) :
    shapeCast S8x10 v shapeCasts_S8x1x10_S8x10 (ix2 s d) = v (ix3 s 0 d) := by
  pointwise

/-- Joining the two pseudo-coordinates, over any arrays. -/
def joined (v w : FVec Ideal S8x512x512 .f32) : FVec Ideal S8x512x512x2 .f32 :=
  concatenate S8x512x512x2 3
    [⟨S8x512x512x1, broadcastInDim S8x512x512x1 ![0, 1, 2] bcast_S8x512x512_S8x512x512x1_0_1_2 v⟩,
     ⟨S8x512x512x1, broadcastInDim S8x512x512x1 ![0, 1, 2] bcast_S8x512x512_S8x512x512x1_0_1_2 w⟩]
    concatenates_S8x512x512x1_S8x512x512x1_S8x512x512x2_d3

/-- The first of the joined arrays, read. -/
theorem joined_read0 (v w : FVec Ideal S8x512x512 .f32) (s : Fin 8) (i k : Fin 512) :
    joined v w (ix4 s i k 0) = v (ix3 s i k) := by
  pointwise [joined]

/-- The second of the joined arrays, read. -/
theorem joined_read1 (v w : FVec Ideal S8x512x512 .f32) (s : Fin 8) (i k : Fin 512) :
    joined v w (ix4 s i k 1) = w (ix3 s i k) := by
  pointwise [joined]

/-- The region's arrays are different buffers. -/
theorem arr_injective : Function.Injective (Pipeline.arrRef spec0) := by decide +kernel

/-- The scores the host lines leave. -/
theorem tail_scores (c : Dev nD) :
    Pipeline.afterTail₀ cfgs (dats m) 0 (V0 m) [hostOps1] c main_v15 = resultScores (kdata m c) := by
  have e : Pipeline.afterTail₀ cfgs (dats m) 0 (V0 m) [hostOps1] c main_v15 =
      shapeCast S8x10 ((dats m 0 c).arrAt 15 (cfgs 0).N : FVec Ideal S8x1x10 .f32) shapeCasts_S8x1x10_S8x10 := by
    unfold Pipeline.afterTail₀
    simp only [List.flatten_cons, List.flatten_nil, List.append_nil]
    after_results_simp
    exact congrArg (fun v : FVec Ideal S8x1x10 .f32 => shapeCast S8x10 v shapeCasts_S8x1x10_S8x10)
      (Pipeline.withArrays_arr spec0 arr_injective c _ _ 15)
  rw [e, final_scores]
  funext j
  obtain ⟨s, d, rfl⟩ : ∃ (s : Fin 8) (d : Fin 10), j = (ix2 s d : S8x10.Idx) :=
    ⟨j 0, j 1, by funext b; fin_cases b <;> rfl⟩
  exact reshape_read _ s d

/-- The pseudo-coordinates the host lines leave. -/
theorem tail_pseudo (c : Dev nD) :
    Pipeline.afterTail₀ cfgs (dats m) 0 (V0 m) [hostOps1] c main_v14 = resultPseudo (kdata m c) := by
  have e : Pipeline.afterTail₀ cfgs (dats m) 0 (V0 m) [hostOps1] c main_v14 =
      joined ((dats m 0 c).arrAt 16 (cfgs 0).N) ((dats m 0 c).arrAt 17 (cfgs 0).N) := by
    unfold Pipeline.afterTail₀
    simp only [List.flatten_cons, List.flatten_nil, List.append_nil]
    after_results_simp
    have h16 := Pipeline.withArrays_arr spec0 arr_injective c (V0 m c) (fun w => (dats m 0 c).arrAt w (cfgs 0).N) 16
    have h17 := Pipeline.withArrays_arr spec0 arr_injective c (V0 m c) (fun w => (dats m 0 c).arrAt w (cfgs 0).N) 17
    rw [← h16, ← h17]
    rfl
  rw [e, final_u0, final_u1]
  funext j
  obtain ⟨s, i, k, d, rfl⟩ : ∃ (s : Fin 8) (i k : Fin 512) (d : Fin 2), j = (ix4 s i k d : S8x512x512x2.Idx) :=
    ⟨j 0, j 1, j 2, j 3, by funext b; fin_cases b <;> rfl⟩
  fin_cases d
  · exact joined_read0 _ _ s i k
  · exact joined_read1 _ _ s i k

end Cert.Spline

end
-- ==== Proof.RefCoords.lean ====
/- The reference's pseudo-coordinates, spline basis and degrees, read at one sample. -/
module

public import proofs.«01_k».proof.Proof.Gen.ReferenceIdeal.Run
public import proofs.«01_k».proof.Proof.Spec

@[expose] public section

set_option maxRecDepth 16384

noncomputable section

namespace Cert.Spline

open Idealize.ShloMosaic Idealize.ShloMosaic.TcCoe Idealize.SL.Sem Idealize.ShloMosaic.StableHlo
open Cert.ReferenceIdeal Cert.ReferenceIdeal.Gen Cert.ReferenceIdeal.Value

/-- The samples of the reference's arguments. -/
def rdata (V0 : Valuation τ sig (Elt Ideal)) : Fin 8 → Data :=
  data (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13))

/-- The word of a comparison, read as a float, is one or zero. -/
theorem uitofp_ofBool (q : Prop) [Decidable q] :
    FloatOps.uitofp (F := Ideal) FTy.f32 (BitVec.ofBool (decide q)) = if q then 1 else 0 := by
  have h1 : (BitVec.ofBool true).toNat = 1 := by decide
  have h0 : (BitVec.ofBool false).toNat = 0 := by decide
  have hs (b : BitVec 1) : FloatOps.uitofp (F := Ideal) FTy.f32 b = ((b.toNat : ℝ) : EReal) := rfl
  by_cases h : q <;> simp only [h, decide_true, decide_false, hs, h0, h1] <;> simp

variable (V0 : Valuation τ sig (Elt Ideal)) (s : Fin 8) (i j : Fin 512)

/-- The reference's mask is the sample's. -/
theorem v2_read : res_main_v2 V0 (ix3 s i j) = (rdata V0 s).mask i j := by
  pointwise [res_main_v2]; rw [uitofp_ofBool]; rfl

/-- The reference's differences of coordinates are the sample's. -/
theorem v7_read (d : Fin 2) : res_main_v7 V0 (ix4 s i j d) = (rdata V0 s).diff d i j := by
  pointwise [res_main_v7]; rfl

/-- The reference's distances are the sample's. -/
theorem v12_read : res_main_v12 V0 (ix3 s i j) = (rdata V0 s).rho i j := by
  pointwise [res_main_v12]; rw [Fin.sum_univ_two]; simp only [v7_read]; rfl

/-- The reference's degrees are the sample's. -/
theorem v50_read : res_main_v50 V0 (ix3 s i 0) = (rdata V0 s).deg i := by
  have h : (id (constant (F := Ideal) S_ FTy.f32 1065353216#32) ix0) = 1 := by rw [id]; pointwise
  pointwise [res_main_v50]; rw [h, max_comm]; rfl

/-- Both pseudo-coordinates of the reference, over the largest distances, the mask, the distances and the differences. -/
def refU (mx : FVec Ideal S8 .f32) (v2 v12 : FVec Ideal S8x512x512 .f32) (v7 : FVec Ideal S8x512x512x2 .f32) : FVec Ideal S8x512x512x2 .f32 :=
  mulf (concatenate S8x512x512x2 3 [⟨S8x512x512x1, (broadcastInDim S8x512x512x1 ![0, 1, 2] bcast_S8x512x512_S8x512x512x1_0_1_2 (Host.divf v12 (broadcastInDim S8x512x512 ![0, 1, 2] bcast_S8x1x1_S8x512x512_0_1_2 (addf (broadcastInDim S8x1x1 ![0] bcast_S8_S8x1x1_0 mx) (broadcastInDim S8x1x1 ![] bcast_S_S8x1x1 (constant S_ .f32 0x2B8CBCCC#32))))))⟩, ⟨S8x512x512x1, (broadcastInDim S8x512x512x1 ![0, 1, 2] bcast_S8x512x512_S8x512x512x1_0_1_2 (addf (Host.divf (Host.atan2 (shapeCast _ (extractStridedSlice S8x512x512x1 ![0, 0, 0, 1] v7 slices_S8x512x512x2_S8x512x512x1_0_0_0_1) shapeCasts_S8x512x512x1_S8x512x512) (shapeCast _ (extractStridedSlice S8x512x512x1 ![0, 0, 0, 0] v7 slices_S8x512x512x2_S8x512x512x1_0_0_0_0) shapeCasts_S8x512x512x1_S8x512x512)) (broadcastInDim S8x512x512 ![] bcast_S_S8x512x512 (constant S_ .f32 0x40C90FDB#32))) (broadcastInDim S8x512x512 ![] bcast_S_S8x512x512 (constant S_ .f32 0x3F000000#32))))⟩] concatenates_S8x512x512x1_S8x512x512x1_S8x512x512x2_d3) (broadcastInDim S8x512x512x2 ![0, 1, 2, 3] bcast_S8x512x512x1_S8x512x512x2_0_1_2_3 (broadcastInDim S8x512x512x1 ![0, 1, 2] bcast_S8x512x512_S8x512x512x1_0_1_2 v2))

/-- The reference's spline basis over its pseudo-coordinates. -/
def refBasis (u : FVec Ideal S8x512x512x2 .f32) : FVec Ideal S8x512x512x2x3 .f32 :=
  maximumf (broadcastInDim S8x512x512x2x3 ![] bcast_S_S8x512x512x2x3 (constant S_ .f32 0x00000000#32)) (subf (broadcastInDim S8x512x512x2x3 ![] bcast_S_S8x512x512x2x3 (constant S_ .f32 0x3F800000#32)) (Host.absf (subf (broadcastInDim S8x512x512x2x3 ![0, 1, 2, 3, 4] bcast_S8x512x512x2x1_S8x512x512x2x3_0_1_2_3_4 (broadcastInDim S8x512x512x2x1 ![0, 1, 2, 3] bcast_S8x512x512x2_S8x512x512x2x1_0_1_2_3 (mulf u (broadcastInDim S8x512x512x2 ![] bcast_S_S8x512x512x2 (constant S_ .f32 0x40000000#32))))) (broadcastInDim S8x512x512x2x3 ![0, 1, 2, 3, 4] bcast_S1x1x1x1x3_S8x512x512x2x3_0_1_2_3_4 (broadcastInDim S1x1x1x1x3 ![4] bcast_S3_S1x1x1x1x3_4 (sitofp .f32 (iotaInDim S3 32 0)))))))

/-- The reference's largest distances along edges. -/
def refMax (v2 v12 : FVec Ideal S8x512x512 .f32) : FVec Ideal S8 .f32 :=
  Host.reduce FloatOps.maximumf (mulf v12 v2) (constant S_ .f32 0xFF800000#32) reducesTo_S8x512x512_S8_d1_2 h_S_

/-- A host maximum over the last two axes, read. -/
theorem hostMax {n0 n1 n2 : ℕ} (v : FVec Ideal ⟨3, ![n0, n1, n2]⟩ .f32) {u : Shape} (init : FVec Ideal u .f32)
    (h : (⟨3, ![n0, n1, n2]⟩ : Shape).ReducesTo [1, 2] ⟨1, ![n0]⟩) (hu) (s : Fin n0) :
    Host.reduce FloatOps.maximumf v init h hu (ix1 s) =
      (Finset.univ : Finset (Fin n1 × Fin n2)).fold max (init (Shape.Idx.first hu)) fun x => v (ix3 s x.1 x.2) := by
  pointwise

/-- The largest distance along a sample's edges, as a maximum over pairs of nodes. -/
theorem refMax_fold : (Finset.univ : Finset (Fin 512 × Fin 512)).fold max
    (constant (F := Ideal) S_ FTy.f32 0xFF800000#32 (Shape.Idx.first h_S_))
    (fun x => mulf (res_main_v12 V0) (res_main_v2 V0) (ix3 s x.1 x.2)) = (rdata V0 s).rhoMax := by
  pointwise
  simp only [v2_read, v12_read]
  rfl

/-- The largest distance along a sample's edges. -/
theorem refMax_read : refMax (res_main_v2 V0) (res_main_v12 V0) (ix1 s) = (rdata V0 s).rhoMax :=
  (hostMax _ _ _ _ s).trans (refMax_fold V0 s)

/-- The reference's basis is `refBasis` of its pseudo-coordinates. -/
theorem v47_eq : res_main_v47 V0 = refBasis (refU (refMax (res_main_v2 V0) (res_main_v12 V0)) (res_main_v2 V0) (res_main_v12 V0) (res_main_v7 V0)) := rfl

/-- The float word of 2π, read. -/
theorem twoPi_read : Ideal.ofBits .f32 0x40C90FDB#32 = ((13176795 / 2097152 : ℝ) : EReal) := by
  simp [Ideal.ofBits, Ideal.ieee, -EReal.coe_mul]; norm_num

/-- The float word of 2, read. -/
theorem two_read : two = ((2 : ℝ) : EReal) := by
  simp [Ideal.ofBits, Ideal.ieee, -EReal.coe_mul]; norm_num

/-- The basis at spline node `k` is the hat function. -/
theorem basis_read (u : FVec Ideal S8x512x512x2 .f32) (d : Fin 2) (k : Fin 3) :
    refBasis u (ix5 s i j d k) = hat (u (ix4 s i j d)) (node k) := by
  have hk : FloatOps.sitofp (F := Ideal) FTy.f32 (BitVec.ofNat 32 k.val) = node k := by
    have hs (b : BitVec 32) : FloatOps.sitofp (F := Ideal) FTy.f32 b = ((b.toInt : ℝ) : EReal) := rfl
    rw [hs]
    fin_cases k <;> simp [node, two_read]
  pointwise [refBasis]
  rw [hk]; rfl

/-- The reference's first pseudo-coordinate, over any vectors. -/
theorem refU_apply0 (mx : FVec Ideal S8 .f32) (v2 v12 : FVec Ideal S8x512x512 .f32)
    (v7 : FVec Ideal S8x512x512x2 .f32) : refU mx v2 v12 v7 (ix4 s i j 0) =
      Ideal.div (v12 (ix3 s i j)) (mx (ix1 s) + eps) * v2 (ix3 s i j) := by
  pointwise [refU]

/-- The reference's first pseudo-coordinate. -/
theorem refU_read0 : refU (refMax (res_main_v2 V0) (res_main_v12 V0)) (res_main_v2 V0) (res_main_v12 V0)
    (res_main_v7 V0) (ix4 s i j 0) = (rdata V0 s).u0 i j := by
  rw [refU_apply0, v2_read, v12_read, refMax_read]
  rfl

/-- The reference's second pseudo-coordinate. -/
theorem refU_read1 :
    refU (refMax (res_main_v2 V0) (res_main_v12 V0)) (res_main_v2 V0) (res_main_v12 V0) (res_main_v7 V0) (ix4 s i j 1) = (rdata V0 s).u1 i j := by
  pointwise [refU]
  rw [v2_read, v7_read, v7_read, twoPi_read, Ideal.div_coe (by norm_num),
    show (1 / (13176795 / 2097152) : ℝ) = 2097152 / 13176795 by norm_num]
  rfl

end Cert.Spline

end
-- ==== Proof.RefLayers.lean ====
/- One graph convolution of the reference, read at a node and a channel, over any vectors. -/
module

public import proofs.«01_k».proof.Proof.RefCoords

@[expose] public section

set_option maxRecDepth 16384

noncomputable section

namespace Cert.Spline

open Idealize.ShloMosaic Idealize.ShloMosaic.TcCoe Idealize.SL.Sem Idealize.ShloMosaic.StableHlo
open Cert.ReferenceIdeal Cert.ReferenceIdeal.Gen Cert.ReferenceIdeal.Value

/-- One spline node's slice of the basis lies inside it. -/
theorem basis_slices (d : Fin 2) (k : Fin 3) : S8x512x512x2x3.Slices ![0, 0, 0, d.val, k.val] S8x512x512x1x1 := by
  fin_cases d <;> fin_cases k <;> decide

/-- One kernel node's slice of the first layer's weights lies inside them. -/
theorem wide_slices (k : Fin 9) : S9x146x64.Slices ![k.val, 0, 0] S1x146x64 := by
  fin_cases k <;> decide

/-- One kernel node's slice of a later layer's weights lies inside them. -/
theorem square_slices (k : Fin 9) : S9x64x64.Slices ![k.val, 0, 0] S1x64x64 := by
  fin_cases k <;> decide

/-- The basis at one axis and one spline node, as the reference takes it. -/
def refBasisAt (B : FVec Ideal S8x512x512x2x3 .f32) (d : Fin 2) (k : Fin 3) : FVec Ideal S8x512x512 .f32 :=
  shapeCast _ (extractStridedSlice S8x512x512x1x1 ![0, 0, 0, d.val, k.val] B (basis_slices d k)) shapeCasts_S8x512x512x1x1_S8x512x512

/-- The first layer's features transformed for kernel node `k`. -/
def refWide (h : FVec Ideal S8x512x146 .f32) (W : FVec Ideal S9x146x64 .f32) (k : Fin 9) : FVec Ideal S8x512x64 .f32 :=
  Host.dotGeneral dot_S8x512x146_S146x64_S8x512x64_2_0_01_1_n_n none h
    (shapeCast _ (extractStridedSlice S1x146x64 ![k.val, 0, 0] W (wide_slices k)) shapeCasts_S1x146x64_S146x64)

/-- A later layer's features transformed for kernel node `k`. -/
def refSquare (h : FVec Ideal S8x512x64 .f32) (W : FVec Ideal S9x64x64 .f32) (k : Fin 9) : FVec Ideal S8x512x64 .f32 :=
  Host.dotGeneral dot_S8x512x64_S64x64_S8x512x64_2_0_01_1_n_n none h
    (shapeCast _ (extractStridedSlice S1x64x64 ![k.val, 0, 0] W (square_slices k)) shapeCasts_S1x64x64_S64x64)

/-- The message through one kernel node, divided by the degree, over the transformed features `g`. -/
def refMsg (A : FVec Ideal S8x512x512 .f32) (B : FVec Ideal S8x512x512x2x3 .f32) (dg : FVec Ideal S8x512x1 .f32)
    (g : FVec Ideal S8x512x64 .f32) (k : Fin 9) : FVec Ideal S8x512x64 .f32 :=
  Host.divf (Host.dotGeneral dot_S8x512x512_S8x512x64_S8x512x64_2_1_1_2_0_0 none
    (mulf (mulf A (refBasisAt B 0 (fst9 k))) (refBasisAt B 1 (snd9 k))) g)
    (broadcastInDim S8x512x64 ![0, 1, 2] bcast_S8x512x1_S8x512x64_0_1_2 dg)

/-- The nine messages added one after the other to `r`, then the rectifier. -/
def refSum (r : FVec Ideal S8x512x64 .f32) (m : Fin 9 → FVec Ideal S8x512x64 .f32) : FVec Ideal S8x512x64 .f32 :=
  maximumf (addf (addf (addf (addf (addf (addf (addf (addf (addf r (m 0)) (m 1)) (m 2)) (m 3)) (m 4)) (m 5)) (m 6)) (m 7)) (m 8))
    (broadcastInDim S8x512x64 ![] bcast_S_S8x512x64 (constant S_ .f32 0x00000000#32))

/-- The bias along the channels. -/
def refBias (b : FVec Ideal S64 .f32) : FVec Ideal S8x512x64 .f32 :=
  broadcastInDim S8x512x64 ![0, 1, 2] bcast_S1x1x64_S8x512x64_0_1_2 (broadcastInDim S1x1x64 ![2] bcast_S64_S1x1x64_2 b)

/-- The reference's first layer. -/
def refLayerWide (A : FVec Ideal S8x512x512 .f32) (B : FVec Ideal S8x512x512x2x3 .f32) (dg : FVec Ideal S8x512x1 .f32)
    (h : FVec Ideal S8x512x146 .f32) (W : FVec Ideal S9x146x64 .f32) (R : FVec Ideal S146x64 .f32) (b : FVec Ideal S64 .f32) :
    FVec Ideal S8x512x64 .f32 :=
  refSum (addf (Host.dotGeneral dot_S8x512x146_S146x64_S8x512x64_2_0_01_1_n_n none h R) (refBias b))
    fun k => refMsg A B dg (refWide h W k) k

/-- A later layer of the reference. -/
def refLayerSquare (A : FVec Ideal S8x512x512 .f32) (B : FVec Ideal S8x512x512x2x3 .f32) (dg : FVec Ideal S8x512x1 .f32)
    (h : FVec Ideal S8x512x64 .f32) (W : FVec Ideal S9x64x64 .f32) (R : FVec Ideal S64x64 .f32) (b : FVec Ideal S64 .f32) :
    FVec Ideal S8x512x64 .f32 :=
  refSum (addf (Host.dotGeneral dot_S8x512x64_S64x64_S8x512x64_2_0_01_1_n_n none h R) (refBias b))
    fun k => refMsg A B dg (refSquare h W k) k

section reads
variable (s : Fin 8) (i j : Fin 512) (c : Fin 64)

/-- The basis at one axis and one spline node, read. -/
theorem refBasisAt_read (B : FVec Ideal S8x512x512x2x3 .f32) (d : Fin 2) (k : Fin 3) :
    refBasisAt B d k (ix3 s i j) = B (ix5 s i j d k) := by
  pointwise [refBasisAt]

/-- The first layer's transformed features are a product over its 146 features. -/
theorem refWide_read (h : FVec Ideal S8x512x146 .f32) (W : FVec Ideal S9x146x64 .f32) (k : Fin 9) :
    refWide h W k (ix3 s j c) = ∑ f, h (ix3 s j f) * W (ix3 k f c) := by
  pointwise [refWide]

/-- A later layer's transformed features are a product over its 64 features. -/
theorem refSquare_read (h : FVec Ideal S8x512x64 .f32) (W : FVec Ideal S9x64x64 .f32) (k : Fin 9) :
    refSquare h W k (ix3 s j c) = ∑ f, h (ix3 s j f) * W (ix3 k f c) := by
  pointwise [refSquare]

/-- The bias does not depend on the node. -/
theorem refBias_read (b : FVec Ideal S64 .f32) : refBias b (ix3 s i c) = b (ix1 c) := by
  pointwise [refBias]

/-- A message is the weighted sum over neighbours, divided by the degree. -/
theorem refMsg_read (A : FVec Ideal S8x512x512 .f32) (B : FVec Ideal S8x512x512x2x3 .f32) (dg : FVec Ideal S8x512x1 .f32)
    (g : FVec Ideal S8x512x64 .f32) (k : Fin 9) : refMsg A B dg g k (ix3 s i c) =
      Ideal.div (∑ j, A (ix3 s i j) * B (ix5 s i j 0 (fst9 k)) * B (ix5 s i j 1 (snd9 k)) * g (ix3 s j c))
        (dg (ix3 s i 0)) := by
  pointwise [refMsg]
  simp only [refBasisAt_read]

/-- The nine additions and the rectifier are one sum and a maximum with zero. -/
theorem refSum_read (r : FVec Ideal S8x512x64 .f32) (m : Fin 9 → FVec Ideal S8x512x64 .f32) :
    refSum r m (ix3 s i c) = max (r (ix3 s i c) + ∑ k, m k (ix3 s i c)) 0 := by
  pointwise [refSum]
  rw [sum_nine]
  simp only [add_assoc]

/-- The edge weights of one sample, over any adjacency and basis. -/
def refWt (A : FVec Ideal S8x512x512 .f32) (B : FVec Ideal S8x512x512x2x3 .f32) (k : Fin 9) (i j : Fin 512) : EReal :=
  A (ix3 s i j) * B (ix5 s i j 0 (fst9 k)) * B (ix5 s i j 1 (snd9 k))

/-- The reference's first layer is the layer of the specification. -/
theorem refLayerWide_read (A : FVec Ideal S8x512x512 .f32) (B : FVec Ideal S8x512x512x2x3 .f32) (dg : FVec Ideal S8x512x1 .f32)
    (h : FVec Ideal S8x512x146 .f32) (W : FVec Ideal S9x146x64 .f32) (R : FVec Ideal S146x64 .f32) (b : FVec Ideal S64 .f32) :
    refLayerWide A B dg h W R b (ix3 s i c) = layer (refWt s A B) (fun i => dg (ix3 s i 0)) (fun i f => h (ix3 s i f))
      (fun k f c => W (ix3 k f c)) (fun f c => R (ix2 f c)) (fun c => b (ix1 c)) i c := by
  rw [refLayerWide, refSum_read]
  simp only [refMsg_read, refWide_read]
  pointwise
  rw [refBias_read]
  rfl

/-- A later layer of the reference is the layer of the specification. -/
theorem refLayerSquare_read (A : FVec Ideal S8x512x512 .f32) (B : FVec Ideal S8x512x512x2x3 .f32) (dg : FVec Ideal S8x512x1 .f32)
    (h : FVec Ideal S8x512x64 .f32) (W : FVec Ideal S9x64x64 .f32) (R : FVec Ideal S64x64 .f32) (b : FVec Ideal S64 .f32) :
    refLayerSquare A B dg h W R b (ix3 s i c) = layer (refWt s A B) (fun i => dg (ix3 s i 0)) (fun i f => h (ix3 s i f))
      (fun k f c => W (ix3 k f c)) (fun f c => R (ix2 f c)) (fun c => b (ix1 c)) i c := by
  rw [refLayerSquare, refSum_read]
  simp only [refMsg_read, refSquare_read]
  pointwise
  rw [refBias_read]
  rfl

end reads

end Cert.Spline

end
-- ==== Proof.RefValue.lean ====
/- What the reference computes for one sample: its three layers and its scores are the sample's. -/
module

public import proofs.«01_k».proof.Proof.RefLayers

@[expose] public section

set_option maxRecDepth 16384

noncomputable section

namespace Cert.Spline

open Idealize.ShloMosaic Idealize.ShloMosaic.TcCoe Idealize.SL.Sem Idealize.ShloMosaic.StableHlo
open Cert.ReferenceIdeal Cert.ReferenceIdeal.Gen Cert.ReferenceIdeal.Value

/-- The reference's scores over the last layer's features. -/
def refScores (h : FVec Ideal S8x512x64 .f32) (Wf : FVec Ideal S64x10 .f32) (bf : FVec Ideal S10 .f32) : FVec Ideal S8x10 .f32 :=
  addf (Host.dotGeneral dot_S8x64_S64x10_S8x10_1_0_0_1_n_n none
    (Host.reduce FloatOps.maximumf h (constant S_ .f32 0xFF800000#32) reducesTo_S8x512x64_S8x64_d1 h_S_) Wf)
    (broadcastInDim S8x10 ![0, 1] bcast_S1x10_S8x10_0_1 (broadcastInDim S1x10 ![1] bcast_S10_S1x10_1 bf))

/-- A host maximum over the middle axis, read. -/
theorem hostMaxMid {n0 n1 n2 : ℕ} (v : FVec Ideal ⟨3, ![n0, n1, n2]⟩ .f32) {u : Shape} (init : FVec Ideal u .f32)
    (h : (⟨3, ![n0, n1, n2]⟩ : Shape).ReducesTo [1] ⟨2, ![n0, n2]⟩) (hu) (s : Fin n0) (f : Fin n2) :
    Host.reduce FloatOps.maximumf v init h hu (ix2 s f) =
      (Finset.univ : Finset (Fin n1)).fold max (init (Shape.Idx.first hu)) fun i => v (ix3 s i f) := by
  pointwise

/-- A product with the last weights plus the bias, over any pooled features. -/
theorem scores_read (g : FVec Ideal S8x64 .f32) (Wf : FVec Ideal S64x10 .f32) (bf : FVec Ideal S10 .f32) (s : Fin 8) (d : Fin 10) :
    addf (Host.dotGeneral dot_S8x64_S64x10_S8x10_1_0_0_1_n_n none g Wf)
      (broadcastInDim S8x10 ![0, 1] bcast_S1x10_S8x10_0_1 (broadcastInDim S1x10 ![1] bcast_S10_S1x10_1 bf)) (ix2 s d) =
      ∑ f, g (ix2 s f) * Wf (ix2 f d) + bf (ix1 d) := by
  pointwise

/-- The scores are the pooled features times the last weights plus the bias. -/
theorem refScores_read (h : FVec Ideal S8x512x64 .f32) (Wf : FVec Ideal S64x10 .f32) (bf : FVec Ideal S10 .f32) (s : Fin 8)
    (d : Fin 10) : refScores h Wf bf (ix2 s d) =
      ∑ f, (Finset.univ : Finset (Fin 512)).fold max low (fun i => h (ix3 s i f)) * Wf (ix2 f d) + bf (ix1 d) := by
  rw [refScores, scores_read]
  simp only [hostMaxMid]
  rfl

variable (V0 : Valuation τ sig (Elt Ideal)) (s : Fin 8)

/-- The reference's pseudo-coordinates. -/
def refPseudo : FVec Ideal S8x512x512x2 .f32 :=
  refU (refMax (res_main_v2 V0) (res_main_v12 V0)) (res_main_v2 V0) (res_main_v12 V0) (res_main_v7 V0)

/-- The generated term of the first layer is `refLayerWide`. -/
theorem wide_eq : res_main_v172 V0 = refLayerWide (V0 (Proc.devRef .tc main_arg1)) (res_main_v47 V0) (res_main_v50 V0)
    (V0 (Proc.devRef .tc main_arg0)) (V0 (Proc.devRef .tc main_arg3)) (V0 (Proc.devRef .tc main_arg4))
    (V0 (Proc.devRef .tc main_arg5)) := rfl

/-- The generated term of the second layer is `refLayerSquare`. -/
theorem square_eq : res_main_v297 V0 = refLayerSquare (V0 (Proc.devRef .tc main_arg1)) (res_main_v47 V0) (res_main_v50 V0)
    (res_main_v172 V0) (V0 (Proc.devRef .tc main_arg6)) (V0 (Proc.devRef .tc main_arg7))
    (V0 (Proc.devRef .tc main_arg8)) := rfl

/-- The reference's edge weights are the sample's. -/
theorem refWt_eq : refWt s (V0 (Proc.devRef .tc main_arg1)) (res_main_v47 V0) = (rdata V0 s).wt := by
  funext k i j
  rw [refWt, v47_eq, basis_read, basis_read, refU_read0, refU_read1]
  rfl

/-- The reference's degrees are the sample's. -/
theorem refDeg_eq : (fun i => res_main_v50 V0 (ix3 s i 0)) = (rdata V0 s).deg := funext fun i => v50_read V0 s i

/-- The reference's features after the first layer are the sample's. -/
theorem h1_read (i : Fin 512) (c : Fin 64) : res_main_v172 V0 (ix3 s i c) = (rdata V0 s).h1 i c := by
  rw [wide_eq, refLayerWide_read, refWt_eq, refDeg_eq]
  rfl

/-- The reference's features after the second layer are the sample's. -/
theorem h2_read (i : Fin 512) (c : Fin 64) : res_main_v297 V0 (ix3 s i c) = (rdata V0 s).h2 i c := by
  rw [square_eq, refLayerSquare_read, refWt_eq, refDeg_eq]
  simp only [h1_read]
  rfl

/-- The reference's last layer. -/
def refLast : FVec Ideal S8x512x64 .f32 :=
  refLayerSquare (V0 (Proc.devRef .tc main_arg1)) (res_main_v47 V0) (res_main_v50 V0)
    (res_main_v297 V0) (V0 (Proc.devRef .tc main_arg9)) (V0 (Proc.devRef .tc main_arg10)) (V0 (Proc.devRef .tc main_arg11))

/-- The reference's features after the third layer are the sample's. -/
theorem h3_read (i : Fin 512) (c : Fin 64) : refLast V0 (ix3 s i c) = (rdata V0 s).h3 i c := by
  rw [refLast, refLayerSquare_read, refWt_eq, refDeg_eq]
  simp only [h2_read]
  rfl

/-- The reference's scores are the samples'. -/
theorem refScores_eq : refScores (refLast V0) (V0 (Proc.devRef .tc main_arg12)) (V0 (Proc.devRef .tc main_arg13)) =
    fun j : S8x10.Idx => (rdata V0 (j 0)).logits (j 1) := by
  funext j
  obtain ⟨s, d, rfl⟩ : ∃ (s : Fin 8) (d : Fin 10), j = (ix2 s d : S8x10.Idx) :=
    ⟨j 0, j 1, by funext b; fin_cases b <;> rfl⟩
  rw [refScores_read]
  simp only [h3_read]
  rfl

/-- The reference's pseudo-coordinates are the samples'. -/
theorem refPseudo_eq : refPseudo V0 =
    fun j : S8x512x512x2.Idx => if (j 3).val = 0 then (rdata V0 (j 0)).u0 (j 1) (j 2) else (rdata V0 (j 0)).u1 (j 1) (j 2) := by
  funext j
  obtain ⟨s, i, k, d, rfl⟩ : ∃ (s : Fin 8) (i k : Fin 512) (d : Fin 2), j = (ix4 s i k d : S8x512x512x2.Idx) :=
    ⟨j 0, j 1, j 2, j 3, by funext b; fin_cases b <;> rfl⟩
  fin_cases d
  · exact refU_read0 V0 s i k
  · exact refU_read1 V0 s i k

end Cert.Spline

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.KernelResult
public import proofs.«01_k».proof.Proof.RefValue
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.StableHlo Cert.Spline

/-- The kernel terminates without fault, leaves its arguments and every counter at zero. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The named constant is the kernel's literal, rounded. -/
theorem preserves : Cert.preserves_Kernel_KernelIdeal :=
  IdealRules.named_const.statement Cert.KernelIdeal.κ "inv_two_pi" .f32 0x3E22F983#32 ((2097152 / 13176795 : ℝ) : EReal) rfl

/-- The kernel's run leaves the samples' scores and pseudo-coordinates. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v15) = resultScores (kdata m c)
        ∧ r.2.mem ((c.tc : Thread Cert.KernelIdeal.nD Cert.KernelIdeal.τ).loc Cert.KernelIdeal.main_v14) = resultPseudo (kdata m c)) :=
  (θ_run Cert.KernelIdeal.defs _ _).mono (fun r h c =>
    ⟨((h c).2 Cert.KernelIdeal.main_v15 (Pipeline.mem_restRefs_of Cert.KernelIdeal.main_v15 (by decide) (by decide))).trans
        (tail_scores m c),
      ((h c).2 Cert.KernelIdeal.main_v14 (Pipeline.mem_restRefs_of Cert.KernelIdeal.main_v14 (by decide) (by decide))).trans
        (tail_pseudo m c)⟩)
    (Cert.KernelIdeal.Gen.run_main m g)

/-- The reference's run leaves its samples' scores and pseudo-coordinates. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v427) =
          resultScores (rdata (launchContents m c))
        ∧ r.2.mem ((c.tc : Thread Cert.ReferenceIdeal.nD Cert.ReferenceIdeal.τ).loc Cert.ReferenceIdeal.main_v34) =
          resultPseudo (rdata (launchContents m c))) :=
  (θ_run Cert.ReferenceIdeal.defs _ _).mono (fun r h c =>
    ⟨(h c).1.trans (refScores_eq (launchContents m c)), (h c).2.1.trans (refPseudo_eq (launchContents m c))⟩)
    (Cert.ReferenceIdeal.Value.run (F := Ideal) m g)

/-- Kernel and reference compute the same two results over the extended reals. -/
theorem algebraic : Cert.algebraic_KernelIdeal_ReferenceIdeal := by
  intro m g m' g' _ hagree
  have hd (c : Dev Cert.KernelIdeal.nD) : rdata (launchContents m' c) = kdata m c := by
    obtain ⟨h0, h1, h2, h3, h4, h5, h6, h7, h8, h9, h10, h11, h12, h13⟩ := hagree c
    unfold kdata
    rw [← h0, ← h1, ← h2, ← h3, ← h4, ← h5, ← h6, ← h7, ← h8, ← h9, ← h10, ← h11, ← h12, ← h13]
    rfl
  refine ⟨fun c => resultScores (kdata m c), fun c => resultPseudo (kdata m c), ?_, ?_⟩
  · exact (θ_run Cert.KernelIdeal.defs _ _).mono (fun r h c => ⟨(h.1 c).1, (h.1 c).2, h.2 c⟩)
      (θ_run_and (run_kernel m g) (Cert.KernelIdeal.Gen.unchanged m g))
  · exact (θ_run Cert.ReferenceIdeal.defs _ _).mono
      (fun r h c => ⟨(h.1 c).1.trans (congrArg resultScores (hd c)), (h.1 c).2.trans (congrArg resultPseudo (hd c)), (h.2.1 c)⟩)
      (θ_run_and (run_reference m' g') (frame_reference m' g' trivial))

/-- Everything the certificate claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
